-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S192x1x4096 : Shape := ⟨3, ![192, 1, 4096]⟩
abbrev S4096x16 : Shape := ⟨2, ![4096, 16]⟩
abbrev S16x2048x3072 : Shape := ⟨3, ![16, 2048, 3072]⟩
abbrev S16x32x3072 : Shape := ⟨3, ![16, 32, 3072]⟩
abbrev S16x768x4096 : Shape := ⟨3, ![16, 768, 4096]⟩
abbrev S16x12x4096 : Shape := ⟨3, ![16, 12, 4096]⟩
abbrev S_ : Shape := ⟨0, ![]⟩

class Facts : Prop where
  bcast_S_S192x1x4096 : S_.BroadcastsInDim S192x1x4096 (![] : Fin 0 → Fin S192x1x4096.rank)
  reducesTo_S192x1x4096_S_d0_1_2 : S192x1x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S192x1x4096 .bf16) (main_arg1 : FVec F S4096x16 .f32) (main_arg2 : IVec S16x2048x3072 8) (main_arg3 : FVec F S16x32x3072 .f32) (main_arg4 : IVec S16x768x4096 8) (main_arg5 : FVec F S16x12x4096 .f32) : IVec S_ 1 :=
  let main_v0 : FVec F S192x1x4096 .bf16 := Host.absf main_arg0
  let main_cst : FVec F S_ .bf16 := constant S_ .bf16 0x7F80#16
  let main_v1 : FVec F S192x1x4096 .bf16 := broadcastInDim S192x1x4096 ![] bcast_S_S192x1x4096 main_cst
  let main_v2 : IVec S192x1x4096 1 := cmpf .olt main_v0 main_v1
  let main_c : IVec S_ 1 := constantI S_ 1 1#1
  let main_v3 : IVec S_ 1 := (fun x v => Host.reduce IntOp.andi x v reducesTo_S192x1x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  main_v8
-- ==== Kernel.lean ====
abbrev S192x1x4096 : Shape := ⟨3, ![192, 1, 4096]⟩
abbrev S4096x16 : Shape := ⟨2, ![4096, 16]⟩
abbrev S16x2048x3072 : Shape := ⟨3, ![16, 2048, 3072]⟩
abbrev S16x32x3072 : Shape := ⟨3, ![16, 32, 3072]⟩
abbrev S16x768x4096 : Shape := ⟨3, ![16, 768, 4096]⟩
abbrev S16x12x4096 : Shape := ⟨3, ![16, 12, 4096]⟩
abbrev S192x4096 : Shape := ⟨2, ![192, 4096]⟩
abbrev S1x2048x3072 : Shape := ⟨3, ![1, 2048, 3072]⟩
abbrev S1x32x3072 : Shape := ⟨3, ![1, 32, 3072]⟩
abbrev S1x768x4096 : Shape := ⟨3, ![1, 768, 4096]⟩
abbrev S1x12x4096 : Shape := ⟨3, ![1, 12, 4096]⟩
abbrev S16x192x128 : Shape := ⟨3, ![16, 192, 128]⟩
abbrev S192x1536 : Shape := ⟨2, ![192, 1536]⟩
abbrev S192x16 : Shape := ⟨2, ![192, 16]⟩
abbrev S192x1 : Shape := ⟨2, ![192, 1]⟩
abbrev S192 : Shape := ⟨1, ![192]⟩
abbrev S192x128 : Shape := ⟨2, ![192, 128]⟩
abbrev S1x192x128 : Shape := ⟨3, ![1, 192, 128]⟩
abbrev S1x2048x256 : Shape := ⟨3, ![1, 2048, 256]⟩
abbrev S2048x256 : Shape := ⟨2, ![2048, 256]⟩
abbrev S1x32x256 : Shape := ⟨3, ![1, 32, 256]⟩
abbrev S32x256 : Shape := ⟨2, ![32, 256]⟩
abbrev S2048x1x256 : Shape := ⟨3, ![2048, 1, 256]⟩
abbrev S2048x2x256 : Shape := ⟨3, ![2048, 2, 256]⟩
abbrev S4096x256 : Shape := ⟨2, ![4096, 256]⟩
abbrev S32x128x256 : Shape := ⟨3, ![32, 128, 256]⟩
abbrev S32x1x256 : Shape := ⟨3, ![32, 1, 256]⟩
abbrev S192x256 : Shape := ⟨2, ![192, 256]⟩
abbrev S1x768x512 : Shape := ⟨3, ![1, 768, 512]⟩
abbrev S768x512 : Shape := ⟨2, ![768, 512]⟩
abbrev S1x12x512 : Shape := ⟨3, ![1, 12, 512]⟩
abbrev S12x512 : Shape := ⟨2, ![12, 512]⟩
abbrev S768x1x512 : Shape := ⟨3, ![768, 1, 512]⟩
abbrev S768x2x512 : Shape := ⟨3, ![768, 2, 512]⟩
abbrev S1536x512 : Shape := ⟨2, ![1536, 512]⟩
abbrev S12x128x512 : Shape := ⟨3, ![12, 128, 512]⟩
abbrev S12x1x512 : Shape := ⟨3, ![12, 1, 512]⟩
abbrev S192x512 : Shape := ⟨2, ![192, 512]⟩

abbrev nBuf : Space → Nat
  | .hbm => 8
  | .vmem => 14
  | .smem => 0
  | _ => 0

abbrev bufTy : (tb : Table) → Fin (tcTables nBuf tb) → BufTy
  | .hbm, ⟨0, _⟩ => ⟨S192x1x4096, .bf16⟩
  | .hbm, ⟨1, _⟩ => ⟨S4096x16, .f32⟩
  | .hbm, ⟨2, _⟩ => ⟨S16x2048x3072, .i8⟩
  | .hbm, ⟨3, _⟩ => ⟨S16x32x3072, .f32⟩
  | .hbm, ⟨4, _⟩ => ⟨S16x768x4096, .i8⟩
  | .hbm, ⟨5, _⟩ => ⟨S16x12x4096, .f32⟩
  | .hbm, ⟨6, _⟩ => ⟨S192x4096, .bf16⟩
  | .hbm, ⟨7, _⟩ => ⟨S192x4096, .bf16⟩
  | .local _ .vmem, ⟨0, _⟩ => ⟨S192x4096, .bf16⟩
  | .local _ .vmem, ⟨1, _⟩ => ⟨S4096x16, .f32⟩
  | .local _ .vmem, ⟨2, _⟩ => ⟨S1x2048x3072, .i8⟩
  | .local _ .vmem, ⟨3, _⟩ => ⟨S1x2048x3072, .i8⟩
  | .local _ .vmem, ⟨4, _⟩ => ⟨S1x32x3072, .f32⟩
  | .local _ .vmem, ⟨5, _⟩ => ⟨S1x32x3072, .f32⟩
  | .local _ .vmem, ⟨6, _⟩ => ⟨S1x768x4096, .i8⟩
  | .local _ .vmem, ⟨7, _⟩ => ⟨S1x768x4096, .i8⟩
  | .local _ .vmem, ⟨8, _⟩ => ⟨S1x12x4096, .f32⟩
  | .local _ .vmem, ⟨9, _⟩ => ⟨S1x12x4096, .f32⟩
  | .local _ .vmem, ⟨10, _⟩ => ⟨S192x4096, .bf16⟩
  | .local _ .vmem, ⟨11, _⟩ => ⟨S16x192x128, .f32⟩
  | .local _ .vmem, ⟨12, _⟩ => ⟨S192x1536, .bf16⟩
  | .local _ .vmem, ⟨13, _⟩ => ⟨S192x4096, .f32⟩
  | _, _ => ⟨S192x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v360 : Index := Scalar.indexCast arg0
  let c0_134 : Index := 0#32
  let c0_135 : Index := 0#32
  ![v360.toNat, 0, 0]
def k0_cond2 (i : grid0.Coords) : BitVec 1 :=
  let arg0 : BitVec 32 := BitVec.ofNat 32 (i 0).val
  let c15_i32 : BitVec 32 := 15#32
  let v653 : BitVec 1 := Scalar.cmpi .eq arg0 c15_i32
  let v654 : BitVec 32 := Scalar.extui v653
  let c0_i32_263 : BitVec 32 := 0#32
  let v655 : BitVec 1 := Scalar.cmpi .ne v654 c0_i32_263
  v655

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x3072 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x12x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S192x1x4096 : Shape := ⟨3, ![192, 1, 4096]⟩
abbrev S4096x16 : Shape := ⟨2, ![4096, 16]⟩
abbrev S16x2048x3072 : Shape := ⟨3, ![16, 2048, 3072]⟩
abbrev S16x32x3072 : Shape := ⟨3, ![16, 32, 3072]⟩
abbrev S16x768x4096 : Shape := ⟨3, ![16, 768, 4096]⟩
abbrev S16x12x4096 : Shape := ⟨3, ![16, 12, 4096]⟩
abbrev S192x4096 : Shape := ⟨2, ![192, 4096]⟩
abbrev S192x16 : Shape := ⟨2, ![192, 16]⟩
abbrev S192x8 : Shape := ⟨2, ![192, 8]⟩
abbrev S_ : Shape := ⟨0, ![]⟩
abbrev S192 : Shape := ⟨1, ![192]⟩
abbrev S192x1 : Shape := ⟨2, ![192, 1]⟩
abbrev S16x2048x1x3072 : Shape := ⟨4, ![16, 2048, 1, 3072]⟩
abbrev S16x2048x2x3072 : Shape := ⟨4, ![16, 2048, 2, 3072]⟩
abbrev S16x4096x3072 : Shape := ⟨3, ![16, 4096, 3072]⟩
abbrev S16x32x128x3072 : Shape := ⟨4, ![16, 32, 128, 3072]⟩
abbrev S16x32x1x3072 : Shape := ⟨4, ![16, 32, 1, 3072]⟩
abbrev S192x8x1 : Shape := ⟨3, ![192, 8, 1]⟩
abbrev S192x8x4096x3072 : Shape := ⟨4, ![192, 8, 4096, 3072]⟩
abbrev S192x8x3072 : Shape := ⟨3, ![192, 8, 3072]⟩
abbrev S192x8x1536 : Shape := ⟨3, ![192, 8, 1536]⟩
abbrev S16x768x1x4096 : Shape := ⟨4, ![16, 768, 1, 4096]⟩
abbrev S16x768x2x4096 : Shape := ⟨4, ![16, 768, 2, 4096]⟩
abbrev S16x1536x4096 : Shape := ⟨3, ![16, 1536, 4096]⟩
abbrev S16x12x128x4096 : Shape := ⟨4, ![16, 12, 128, 4096]⟩
abbrev S16x12x1x4096 : Shape := ⟨4, ![16, 12, 1, 4096]⟩
abbrev S192x8x1536x4096 : Shape := ⟨4, ![192, 8, 1536, 4096]⟩
abbrev S192x8x4096 : Shape := ⟨3, ![192, 8, 4096]⟩

abbrev nBuf : Space → Nat
  | .hbm => 126
  | .vmem => 0
  | .smem => 0
  | _ => 0

abbrev bufTy : (tb : Table) → Fin (tcTables nBuf tb) → BufTy
  | .hbm, ⟨0, _⟩ => ⟨S192x1x4096, .bf16⟩
  | .hbm, ⟨1, _⟩ => ⟨S4096x16, .f32⟩
  | .hbm, ⟨2, _⟩ => ⟨S16x2048x3072, .i8⟩
  | .hbm, ⟨3, _⟩ => ⟨S16x32x3072, .f32⟩
  | .hbm, ⟨4, _⟩ => ⟨S16x768x4096, .i8⟩
  | .hbm, ⟨5, _⟩ => ⟨S16x12x4096, .f32⟩
  | .hbm, ⟨6, _⟩ => ⟨S192x4096, .bf16⟩
  | .hbm, ⟨7, _⟩ => ⟨S192x4096, .f32⟩
  | .hbm, ⟨8, _⟩ => ⟨S192x16, .f32⟩
  | .hbm, ⟨9, _⟩ => ⟨S192x8, .f32⟩
  | .hbm, ⟨10, _⟩ => ⟨S192x8, .i32⟩
  | .hbm, ⟨11, _⟩ => ⟨S_, .f32⟩
  | .hbm, ⟨12, _⟩ => ⟨S192, .f32⟩
  | .hbm, ⟨13, _⟩ => ⟨S_, .f32⟩
  | .hbm, ⟨14, _⟩ => ⟨S192, .f32⟩
  | .hbm, ⟨15, _⟩ => ⟨S192, .f32⟩
  | .hbm, ⟨16, _⟩ => ⟨S192x1, .f32⟩
  | .hbm, ⟨17, _⟩ => ⟨S192x8, .f32⟩
  | .hbm, ⟨18, _⟩ => ⟨S192x8, .f32⟩
  | .hbm, ⟨19, _⟩ => ⟨S192x8, .f32⟩
  | .hbm, ⟨20, _⟩ => ⟨S_, .f32⟩
  | .hbm, ⟨21, _⟩ => ⟨S192, .f32⟩
  | .hbm, ⟨22, _⟩ => ⟨S192x1, .f32⟩
  | .hbm, ⟨23, _⟩ => ⟨S192x8, .f32⟩
  | .hbm, ⟨24, _⟩ => ⟨S192x8, .f32⟩
  | .hbm, ⟨25, _⟩ => ⟨S16x2048x3072, .i32⟩
  | .hbm, ⟨26, _⟩ => ⟨S_, .i32⟩
  | .hbm, ⟨27, _⟩ => ⟨S16x2048x3072, .i32⟩
  | .hbm, ⟨28, _⟩ => ⟨S16x2048x3072, .i32⟩
  | .hbm, ⟨29, _⟩ => ⟨S_, .i32⟩
  | .hbm, ⟨30, _⟩ => ⟨S16x2048x3072, .i32⟩
  | .hbm, ⟨31, _⟩ => ⟨S16x2048x3072, .i32⟩
  | .hbm, ⟨32, _⟩ => ⟨S_, .i32⟩
  | .hbm, ⟨33, _⟩ => ⟨S16x2048x3072, .i32⟩
  | .hbm, ⟨34, _⟩ => ⟨S16x2048x3072, .i32⟩
  | .hbm, ⟨35, _⟩ => ⟨S16x2048x1x3072, .i32⟩
  | .hbm, ⟨36, _⟩ => ⟨S16x2048x1x3072, .i32⟩
  | .hbm, ⟨37, _⟩ => ⟨S16x2048x2x3072, .i32⟩
  | .hbm, ⟨38, _⟩ => ⟨S_, .i32⟩
  | .hbm, ⟨39, _⟩ => ⟨S16x2048x2x3072, .i32⟩
  | .hbm, ⟨40, _⟩ => ⟨S16x2048x2x3072, .i1⟩
  | .hbm, ⟨41, _⟩ => ⟨S_, .i32⟩
  | .hbm, ⟨42, _⟩ => ⟨S16x2048x2x3072, .i32⟩
  | .hbm, ⟨43, _⟩ => ⟨S16x2048x2x3072, .i32⟩
  | .hbm, ⟨44, _⟩ => ⟨S16x2048x2x3072, .i32⟩
  | .hbm, ⟨45, _⟩ => ⟨S16x2048x2x3072, .i8⟩
  | .hbm, ⟨46, _⟩ => ⟨S16x4096x3072, .i8⟩
  | .hbm, ⟨47, _⟩ => ⟨S16x4096x3072, .i32⟩
  | .hbm, ⟨48, _⟩ => ⟨S16x4096x3072, .f32⟩
  | .hbm, ⟨49, _⟩ => ⟨S16x4096x3072, .bf16⟩
  | .hbm, ⟨50, _⟩ => ⟨S16x32x128x3072, .bf16⟩
  | .hbm, ⟨51, _⟩ => ⟨S16x32x3072, .bf16⟩
  | .hbm, ⟨52, _⟩ => ⟨S16x32x1x3072, .bf16⟩
  | .hbm, ⟨53, _⟩ => ⟨S16x32x128x3072, .bf16⟩
  | .hbm, ⟨54, _⟩ => ⟨S16x32x128x3072, .bf16⟩
  | .hbm, ⟨55, _⟩ => ⟨S16x4096x3072, .bf16⟩
  | .hbm, ⟨56, _⟩ => ⟨S_, .i32⟩
  | .hbm, ⟨57, _⟩ => ⟨S192x8, .i32⟩
  | .hbm, ⟨58, _⟩ => ⟨S192x8, .i1⟩
  | .hbm, ⟨59, _⟩ => ⟨S_, .i32⟩
  | .hbm, ⟨60, _⟩ => ⟨S192x8, .i32⟩
  | .hbm, ⟨61, _⟩ => ⟨S192x8, .i32⟩
  | .hbm, ⟨62, _⟩ => ⟨S192x8, .i32⟩
  | .hbm, ⟨63, _⟩ => ⟨S192x8x1, .i32⟩
  | .hbm, ⟨64, _⟩ => ⟨S192x8x4096x3072, .bf16⟩
  | .hbm, ⟨65, _⟩ => ⟨S192x8x3072, .f32⟩
  | .hbm, ⟨66, _⟩ => ⟨S192x8x1536, .f32⟩
  | .hbm, ⟨67, _⟩ => ⟨S192x8x1536, .f32⟩
  | .hbm, ⟨68, _⟩ => ⟨S192x8x1536, .f32⟩
  | .hbm, ⟨69, _⟩ => ⟨S192x8x1536, .f32⟩
  | .hbm, ⟨70, _⟩ => ⟨S_, .f32⟩
  | .hbm, ⟨71, _⟩ => ⟨S192x8x1536, .f32⟩
  | .hbm, ⟨72, _⟩ => ⟨S192x8x1536, .f32⟩
  | .hbm, ⟨73, _⟩ => ⟨S_, .f32⟩
  | .hbm, ⟨74, _⟩ => ⟨S192x8x1536, .f32⟩
  | .hbm, ⟨75, _⟩ => ⟨S192x8x1536, .f32⟩
  | .hbm, ⟨76, _⟩ => ⟨S192x8x1536, .f32⟩
  | .hbm, ⟨77, _⟩ => ⟨S192x8x1536, .f32⟩
  | .hbm, ⟨78, _⟩ => ⟨S192x8x1536, .bf16⟩
  | .hbm, ⟨79, _⟩ => ⟨S16x768x4096, .i32⟩
  | .hbm, ⟨80, _⟩ => ⟨S_, .i32⟩
  | .hbm, ⟨81, _⟩ => ⟨S16x768x4096, .i32⟩
  | .hbm, ⟨82, _⟩ => ⟨S16x768x4096, .i32⟩
  | .hbm, ⟨83, _⟩ => ⟨S_, .i32⟩
  | .hbm, ⟨84, _⟩ => ⟨S16x768x4096, .i32⟩
  | .hbm, ⟨85, _⟩ => ⟨S16x768x4096, .i32⟩
  | .hbm, ⟨86, _⟩ => ⟨S_, .i32⟩
  | .hbm, ⟨87, _⟩ => ⟨S16x768x4096, .i32⟩
  | .hbm, ⟨88, _⟩ => ⟨S16x768x4096, .i32⟩
  | .hbm, ⟨89, _⟩ => ⟨S16x768x1x4096, .i32⟩
  | .hbm, ⟨90, _⟩ => ⟨S16x768x1x4096, .i32⟩
  | .hbm, ⟨91, _⟩ => ⟨S16x768x2x4096, .i32⟩
  | .hbm, ⟨92, _⟩ => ⟨S_, .i32⟩
  | .hbm, ⟨93, _⟩ => ⟨S16x768x2x4096, .i32⟩
  | .hbm, ⟨94, _⟩ => ⟨S16x768x2x4096, .i1⟩
  | .hbm, ⟨95, _⟩ => ⟨S_, .i32⟩
  | .hbm, ⟨96, _⟩ => ⟨S16x768x2x4096, .i32⟩
  | .hbm, ⟨97, _⟩ => ⟨S16x768x2x4096, .i32⟩
  | .hbm, ⟨98, _⟩ => ⟨S16x768x2x4096, .i32⟩
  | .hbm, ⟨99, _⟩ => ⟨S16x768x2x4096, .i8⟩
  | .hbm, ⟨100, _⟩ => ⟨S16x1536x4096, .i8⟩
  | .hbm, ⟨101, _⟩ => ⟨S16x1536x4096, .i32⟩
  | .hbm, ⟨102, _⟩ => ⟨S16x1536x4096, .f32⟩
  | .hbm, ⟨103, _⟩ => ⟨S16x1536x4096, .bf16⟩
  | .hbm, ⟨104, _⟩ => ⟨S16x12x128x4096, .bf16⟩
  | .hbm, ⟨105, _⟩ => ⟨S16x12x4096, .bf16⟩
  | .hbm, ⟨106, _⟩ => ⟨S16x12x1x4096, .bf16⟩
  | .hbm, ⟨107, _⟩ => ⟨S16x12x128x4096, .bf16⟩
  | .hbm, ⟨108, _⟩ => ⟨S16x12x128x4096, .bf16⟩
  | .hbm, ⟨109, _⟩ => ⟨S16x1536x4096, .bf16⟩
  | .hbm, ⟨110, _⟩ => ⟨S_, .i32⟩
  | .hbm, ⟨111, _⟩ => ⟨S192x8, .i32⟩
  | .hbm, ⟨112, _⟩ => ⟨S192x8, .i1⟩
  | .hbm, ⟨113, _⟩ => ⟨S_, .i32⟩
  | .hbm, ⟨114, _⟩ => ⟨S192x8, .i32⟩
  | .hbm, ⟨115, _⟩ => ⟨S192x8, .i32⟩
  | .hbm, ⟨116, _⟩ => ⟨S192x8, .i32⟩
  | .hbm, ⟨117, _⟩ => ⟨S192x8x1, .i32⟩
  | .hbm, ⟨118, _⟩ => ⟨S192x8x1536x4096, .bf16⟩
  | .hbm, ⟨119, _⟩ => ⟨S192x8x4096, .f32⟩
  | .hbm, ⟨120, _⟩ => ⟨S192x8x1, .f32⟩
  | .hbm, ⟨121, _⟩ => ⟨S192x8x4096, .f32⟩
  | .hbm, ⟨122, _⟩ => ⟨S192x8x4096, .f32⟩
  | .hbm, ⟨123, _⟩ => ⟨S_, .f32⟩
  | .hbm, ⟨124, _⟩ => ⟨S192x4096, .f32⟩
  | .hbm, ⟨125, _⟩ => ⟨S192x4096, .bf16⟩
  | _, _ => ⟨S192x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_13 : Ref sig .tc := ⟨.hbm, 110, rfl⟩
abbrev main_v79 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== Proof.Ranking.lean ====
/- The selection of the eight greatest of sixteen extended reals, equal ones in index order: the position a stable
   descending sort gives an index is the number of indices ahead of it. -/
module

public import Idealize.ShloMosaic.Lib.SortFacts
public import Idealize.ShloMosaic.PureOps.Ideal

@[expose] public section

noncomputable section

namespace Cert.Ranking

open Idealize.ShloMosaic

section order
variable {n : Nat} (l : Fin n → EReal)

/-- `a` stands ahead of `b`: its value is greater, or equal at the lower index. -/
def Ahead (a b : Fin n) : Prop := l b < l a ∨ (l a = l b ∧ a < b)

/-- How many indices stand ahead of `e`. -/
def rank (e : Fin n) : Nat := by
  classical exact (Finset.univ.filter fun a => Ahead l a e).card

/-- The index the stable descending sort puts at position `k`. -/
def place (k : Fin n) : Fin n := sortedFrom (fun a b => decide (l b < l a)) k

/-- Nothing stands ahead of itself. -/
theorem not_ahead_self (a : Fin n) : ¬ Ahead l a a := by
  rintro (h | ⟨-, h⟩)
  · exact lt_irrefl _ h
  · exact lt_irrefl _ h

/-- Of two indices at most one stands ahead of the other. -/
theorem ahead_asymm {a b : Fin n} (h : Ahead l a b) : ¬ Ahead l b a := by
  rintro (h' | ⟨h', h''⟩)
  · rcases h with h | ⟨h, -⟩
    · exact lt_asymm h h'
    · rw [h] at h'; exact lt_irrefl _ h'
  · rcases h with h | ⟨-, h⟩
    · rw [h'] at h; exact lt_irrefl _ h
    · exact lt_asymm h h''

/-- Inserting an index below all those of a list that stands in order leaves the list in order. -/
theorem pairwise_insert (a : Fin n) (m : List (Fin n)) (ha : ∀ b ∈ m, a < b) (hm : m.Pairwise (Ahead l)) :
    (insertBefore (fun x y => decide (l y < l x)) a m).Pairwise (Ahead l) := by
  induction m with
  | nil => simp [insertBefore]
  | cons b m ih =>
    obtain ⟨hb, hm'⟩ := List.pairwise_cons.mp hm
    unfold insertBefore
    split
    · next h =>
      have hba : l a < l b := by simpa using h
      refine List.pairwise_cons.mpr ⟨fun x hx => ?_, ih (fun x hx => ha x (List.mem_cons_of_mem _ hx)) hm'⟩
      rcases List.mem_cons.mp ((perm_insertBefore _ a m).mem_iff.mp hx) with rfl | hx'
      · exact Or.inl hba
      · exact hb x hx'
    · next h =>
      have hab : l b ≤ l a := by simpa using h
      refine List.pairwise_cons.mpr ⟨fun x hx => ?_, hm⟩
      have hax := ha x hx
      have hle : l x ≤ l a := by
        rcases List.mem_cons.mp hx with rfl | hx'
        · exact hab
        · rcases hb x hx' with h1 | ⟨h1, -⟩
          · exact h1.le.trans hab
          · exact h1 ▸ hab
      rcases lt_or_eq_of_le hle with h1 | h1
      · exact Or.inl h1
      · exact Or.inr ⟨h1.symm, hax⟩

/-- The stable descending sort of an increasing list of indices stands in order. -/
theorem pairwise_sort (m : List (Fin n)) (hm : m.Pairwise (· < ·)) :
    (stableSort (fun x y => decide (l y < l x)) m).Pairwise (Ahead l) := by
  induction m with
  | nil => simp [stableSort]
  | cons a m ih =>
    obtain ⟨ha, hm'⟩ := List.pairwise_cons.mp hm
    unfold stableSort
    exact pairwise_insert l a _ (fun b hb => ha b ((perm_stableSort _ m).mem_iff.mp hb)) (ih hm')

/-- An earlier position holds an index ahead of a later position's. -/
theorem place_ahead {i j : Fin n} (h : i < j) : Ahead l (place l i) (place l j) := by
  have hs : (sortPositions n fun a b => decide (l b < l a)).Pairwise (Ahead l) :=
    pairwise_sort l (List.finRange n) (List.pairwise_lt_finRange n)
  unfold place sortedFrom
  exact List.pairwise_iff_get.mp hs _ _ h

/-- Positions and indices correspond one to one. -/
theorem place_bijective : Function.Bijective (place l) :=
  ⟨sortedFrom_injective _, sortedFrom_surjective _⟩

/-- The index at position `k` has exactly `k` indices ahead of it. -/
theorem rank_place (k : Fin n) : rank l (place l k) = k.val := by
  classical
  have h : (Finset.univ.filter fun a => Ahead l a (place l k))
      = (Finset.univ.filter fun j : Fin n => j < k).map ⟨place l, (place_bijective l).1⟩ := by
    ext a
    obtain ⟨j, rfl⟩ := (place_bijective l).2 a
    simp only [Finset.mem_filter, Finset.mem_univ, true_and, Finset.mem_map, Function.Embedding.coeFn_mk]
    constructor
    · intro hj
      refine ⟨j, ?_, rfl⟩
      by_contra hn
      rcases lt_or_eq_of_le (not_lt.mp hn) with h1 | h1
      · exact ahead_asymm l hj (place_ahead l h1)
      · subst h1; exact not_ahead_self l _ hj
    · rintro ⟨j', hj', e⟩
      rw [← e]; exact place_ahead l hj'
  unfold rank
  rw [show (Finset.univ.filter fun a => Ahead l a (place l k)) = _ from h, Finset.card_map,
    show (Finset.univ.filter fun j : Fin n => j < k) = Finset.Iio k by ext; simp]
  exact Fin.card_Iio k

end order

section eight
variable (l : Fin 16 → EReal)

/-- The index at the `k`-th of the first eight positions. -/
def pick (k : Fin 8) : Fin 16 := place l (k.castLE (by decide))

/-- A sum over the indices with fewer than eight ahead of them is the sum over the first eight positions. -/
theorem sum_chosen (f : Fin 16 → EReal) :
    ∑ e : Fin 16, (if rank l e < 8 then f e else 0) = ∑ k : Fin 8, f (pick l k) := by
  rw [← (Equiv.ofBijective _ (place_bijective l)).sum_comp]
  simp only [Equiv.ofBijective_apply, rank_place]
  show ∑ k : Fin 16, (if k.val < 8 then f (place l k) else 0) = _
  rw [← Fin.sum_congr' (fun k : Fin 16 => if k.val < 8 then f (place l k) else 0) (show 8 + 8 = 16 from rfl), Fin.sum_univ_add]
  have h1 : ∀ k : Fin 8, ((Fin.natAdd 8 k).cast (show 8 + 8 = 16 from rfl)).val < 8 ↔ False := by
    intro k; simp
  have h2 : ∀ k : Fin 8, ((Fin.castAdd 8 k).cast (show 8 + 8 = 16 from rfl)).val < 8 ↔ True := by
    intro k; simp
  simp only [h1, h2, if_true, if_false, Finset.sum_const_zero, add_zero]
  rfl

/-- The greatest of the sixteen values. -/
def top : EReal := Finset.univ.sup l

/-- The greatest of the sixteen is the greatest of the eight picked. -/
theorem sup_pick : (Finset.univ.sup fun k : Fin 8 => l (pick l k)) = top l := by
  apply le_antisymm
  · exact Finset.sup_le fun k _ => Finset.le_sup (f := l) (Finset.mem_univ _)
  · refine Finset.sup_le fun e _ => ?_
    obtain ⟨j, rfl⟩ := (place_bijective l).2 e
    refine le_trans ?_ (Finset.le_sup (f := fun k : Fin 8 => l (pick l k)) (Finset.mem_univ 0))
    rcases Nat.eq_zero_or_pos j.val with h | h
    · have : j = (0 : Fin 8).castLE (by decide) := Fin.ext h
      rw [this]; exact le_refl _
    · have h' : ((0 : Fin 8).castLE (by decide) : Fin 16) < j := h
      rcases place_ahead l h' with h1 | ⟨h1, -⟩
      · exact h1.le
      · exact h1.symm.le

/-- What an index counts before normalisation: the exponential of its distance from the greatest if it is chosen. -/
def share (e : Fin 16) : EReal := if rank l e < 8 then Ideal.exp (l e - top l) else 0

/-- The routing weight of an index: its share of the chosen exponentials, zero if it is not chosen. -/
def weight (e : Fin 16) : EReal := Ideal.div (share l e) (∑ a : Fin 16, share l a)

/-- The routing weight of the index at position `k` of the eight. -/
def weightAt (k : Fin 8) : EReal :=
  Ideal.div (Ideal.exp (l (pick l k) - top l)) (∑ a : Fin 8, Ideal.exp (l (pick l a) - top l))

/-- The index at one of the first eight positions is chosen. -/
theorem rank_pick (k : Fin 8) : rank l (pick l k) < 8 := by
  unfold pick; rw [rank_place]; exact k.isLt

/-- The two normalising sums agree. -/
theorem sum_share : ∑ a : Fin 16, share l a = ∑ a : Fin 8, Ideal.exp (l (pick l a) - top l) :=
  sum_chosen l fun e => Ideal.exp (l e - top l)

/-- The weight of the index at position `k` is the position's weight. -/
theorem weight_pick (k : Fin 8) : weight l (pick l k) = weightAt l k := by
  unfold weight weightAt
  rw [sum_share]
  unfold share
  rw [if_pos (rank_pick l k)]

variable {l}

/-- The greatest of sixteen finite values is finite. -/
theorem top_finite (h : ∀ e, ∃ r : ℝ, l e = (r : EReal)) : ∃ r : ℝ, top l = (r : EReal) := by
  obtain ⟨e, -, he⟩ := Finset.exists_mem_eq_sup (Finset.univ : Finset (Fin 16)) ⟨0, Finset.mem_univ _⟩ l
  obtain ⟨r, hr⟩ := h e
  exact ⟨r, by unfold top; rw [he, hr]⟩

/-- On finite values an index is chosen exactly when its weight is positive. -/
theorem weight_pos_iff (h : ∀ e, ∃ r : ℝ, l e = (r : EReal)) (e : Fin 16) : 0 < weight l e ↔ rank l e < 8 := by
  obtain ⟨t, ht⟩ := top_finite h
  choose r hr using h
  have hexp : ∀ a, Ideal.exp (l a - top l) = ((Real.exp (r a - t) : ℝ) : EReal) := by
    intro a; rw [ht, hr, ← EReal.coe_sub]; rfl
  have hsum : ∑ a : Fin 16, share l a = ((∑ a : Fin 8, Real.exp (r (pick l a) - t) : ℝ) : EReal) := by
    rw [sum_share]
    simp only [hexp]
    induction (Finset.univ : Finset (Fin 8)) using Finset.cons_induction with
    | empty => simp
    | cons a s ha ih => rw [Finset.sum_cons, Finset.sum_cons, ih, EReal.coe_add]
  have hpos : (0 : ℝ) < ∑ a : Fin 8, Real.exp (r (pick l a) - t) :=
    Finset.sum_pos (fun a _ => Real.exp_pos _) ⟨0, Finset.mem_univ _⟩
  unfold weight
  rw [hsum]
  have hne : ((∑ a : Fin 8, Real.exp (r (pick l a) - t) : ℝ) : EReal) ≠ 0 := by
    exact_mod_cast hpos.ne'
  unfold Ideal.div
  rw [if_neg hne, ← EReal.coe_inv]
  unfold share
  split
  · next hc =>
    refine ⟨fun _ => hc, fun _ => ?_⟩
    rw [hexp, ← EReal.coe_mul]
    exact_mod_cast mul_pos (Real.exp_pos _) (inv_pos.mpr hpos)
  · next hc =>
    simp [hc]

/-- Masking by a positive weight and adding over all sixteen is adding the eight weighted products. -/
theorem sum_weighted (h : ∀ e, ∃ r : ℝ, l e = (r : EReal)) (out : Fin 16 → EReal) :
    ∑ e : Fin 16, (if 0 < weight l e then out e * weight l e else 0) = ∑ k : Fin 8, out (pick l k) * weightAt l k := by
  simp only [weight_pos_iff h]
  rw [sum_chosen l fun e => out e * weight l e]
  simp only [weight_pick]

end eight

end Cert.Ranking

end
-- ==== Proof.RefRoute.lean ====
/- The reference's routing at an index: the eight greatest scores, their experts, their softmax. -/
module

public import proofs.«01_k».proof.Proof.Ranking
public import proofs.«01_k».proof.Proof.Gen.ReferenceIdeal.Read
public import Idealize.ShloMosaic.Lib.Pointwise

@[expose] public section

set_option maxRecDepth 16384

noncomputable section

namespace Cert.ReferenceIdeal.Value

open Idealize.ShloMosaic Idealize.ShloMosaic.TcCoe Idealize.SL Idealize.SL.Sem
open Cert.ReferenceIdeal.Gen Cert.ReferenceIdeal.Read

/-- The descending compare of extended reals, as a condition. -/
theorem gt_eq (a b : Ideal .f32) : (FloatOps.cmpfTotal .gt a b == 1#1) = decide (b < a) := by
  show ((BitVec.ofBool (decide (b < a))) == 1#1) = decide (b < a)
  cases decide (b < a) <;> rfl

/-- Moving along one token's row. -/
theorem along_row (t : Fin 192) (a b : Fin 16) : (ix2 t a : S192x16.Idx).along 1 b = ix2 t b := by
  funext c
  match c with
  | ⟨0, _⟩ => rfl
  | ⟨1, _⟩ => rfl

section top
variable (l : FVec Ideal S192x16 .f32) (h : S192x16.Slices (fun _ => 0) S192x8)

/-- The position a stable descending sort of one token's row gives is the pick. -/
theorem sorted_row (t : Fin 192) (k : Fin 8) (a : Fin 16) (ha : a = k.castLE (by decide)) :
    sortedFrom (fun p q : Fin 16 => FloatOps.cmpfTotal .gt (l ((ix2 t a : S192x16.Idx).along 1 p)) (l ((ix2 t a : S192x16.Idx).along 1 q)) == 1#1) a
      = Ranking.pick (fun a => l (ix2 t a)) k := by
  subst ha
  unfold Ranking.pick Ranking.place
  congr 1
  funext p q
  rw [along_row, along_row, gt_eq]

/-- The greatest scores of one token's row. -/
theorem topK_values (t : Fin 192) (k : Fin 8) :
    (Host.topK S192x8 1 (FloatOps.cmpfTotal .gt) l h).1 (ix2 t k) = l (ix2 t (Ranking.pick (fun a => l (ix2 t a)) k)) := by
  have hs := sorted_row l t k ⟨k.val, by omega⟩ rfl
  unfold Host.topK Host.sort2
  pointwise []
  generalize hz : sortedFrom _ _ = z
  have hz' : z = Ranking.pick (fun a => l (ix2 t a)) k := hz.symm.trans hs
  rw [← hz']
  exact congrArg l (along_row t ⟨k.val, by omega⟩ z)

/-- The experts they belong to. -/
theorem topK_indices (t : Fin 192) (k : Fin 8) :
    (Host.topK S192x8 1 (FloatOps.cmpfTotal .gt) l h).2 (ix2 t k) = BitVec.ofNat 32 (Ranking.pick (fun a => l (ix2 t a)) k).val := by
  have hs := sorted_row l t k ⟨k.val, by omega⟩ rfl
  unfold Host.topK Host.sort2
  pointwise []
  generalize hz : sortedFrom _ _ = z
  have hz' : z = Ranking.pick (fun a => l (ix2 t a)) k := hz.symm.trans hs
  rw [← hz']
  exact congrArg (fun j : S192x16.Idx => BitVec.ofNat 32 (j 1).val) (along_row t ⟨k.val, by omega⟩ z)

end top

section softmax
variable (x0 : (⟨S192x1x4096, .bf16⟩ : BufTy).Contents (Elt Ideal)) (x1 : (⟨S4096x16, .f32⟩ : BufTy).Contents (Elt Ideal))

/-- The reference's scores at an index. -/
theorem score_apply (t : Fin 192) (e : Fin 16) :
    val_main_v2 (F := Ideal) x0 x1 (ix2 t e) = ∑ d : Fin 4096, x0 (ix3 t 0 d) * x1 (ix2 d e) := by
  pointwise [val_main_v2, val_main_v1, val_main_v0]

/-- The softmax of the eight at an index, over the scores. -/
theorem probs_apply (t : Fin 192) (k : Fin 8) :
    val_main_v13 (F := Ideal) x0 x1 (ix2 t k) = Ranking.weightAt (fun e => val_main_v2 (F := Ideal) x0 x1 (ix2 t e)) k := by
  have hv : ∀ k : Fin 8, val_main_values (F := Ideal) x0 x1 (ix2 t k) = _ := fun k => topK_values _ sliceFits_S192x16_S192x8 t k
  generalize hV : val_main_values (F := Ideal) x0 x1 = V at hv
  pointwise [val_main_v13, val_main_v12, val_main_v11, val_main_v10, val_main_v9, val_main_v8, val_main_v7, val_main_v6, val_main_v5, val_main_v4, val_main_v3, val_main_cst, val_main_cst_0, val_main_cst_1, hV]
  have hb : Ideal.ofBits FTy.f32 4286578688#32 = ⊥ := by simp [Ideal.ofBits, Ideal.ieee]
  rw [hb]
  have ht : Finset.fold max ⊥ (fun x => V (ix2 t x)) Finset.univ = Ranking.top (fun e => val_main_v2 (F := Ideal) x0 x1 (ix2 t e)) := by
    rw [← Ranking.sup_pick]
    exact Finset.sup_congr rfl fun k _ => hv k
  rw [ht, max_eq_right bot_le]
  simp only [hv]
  rfl

end softmax

end Cert.ReferenceIdeal.Value

end
-- ==== Proof.Spec.lean ====
/- One expert's feed-forward network over the extended reals, as plain functions of coordinates. -/
module

public import Idealize.ShloMosaic.PureOps.Ideal
public import Idealize.ShloMosaic.Lib.Pointwise

@[expose] public section

noncomputable section

namespace Cert.Spec

open Idealize.ShloMosaic

/-- Nibble `k` of a byte, as a two's-complement number of four bits. -/
def code (b : BitVec 8) (k : Nat) : Int :=
  if b.toNat / 16 ^ k % 16 > 7 then ((b.toNat / 16 ^ k % 16 : Nat) : Int) - 16 else ((b.toNat / 16 ^ k % 16 : Nat) : Int)

/-- A dequantised weight: nibble `k` of its byte times its block's scale. -/
def deq (b : BitVec 8) (k : Nat) (s : EReal) : EReal := (((code b k : ℤ) : ℝ) : EReal) * s

/-- The dequantised matrix of packed bytes (two rows to a byte row) and scales (one to 128 rows). -/
def matrix {r2 r128 n : Nat} (q : Fin r2 → Fin n → BitVec 8) (s : Fin r128 → Fin n → EReal) {r : Nat}
    (h2 : r = 2 * r2) (h128 : r = 128 * r128) (d : Fin r) (f : Fin n) : EReal :=
  deq (q ⟨d.val / 2, by omega⟩ f) (d.val % 2) (s ⟨d.val / 128, by omega⟩ f)

/-- One token's pre-activations against an expert's gate and up matrix. -/
def preAct (x : Fin 4096 → EReal) (gu : Fin 4096 → Fin 3072 → EReal) (f : Fin 3072) : EReal := ∑ d : Fin 4096, x d * gu d f

/-- One token's hidden layer: the gated unit. -/
def hid (x : Fin 4096 → EReal) (gu : Fin 4096 → Fin 3072 → EReal) (f : Fin 1536) : EReal :=
  preAct x gu ⟨f.val, by omega⟩ * Ideal.logistic (preAct x gu ⟨f.val, by omega⟩) * preAct x gu ⟨1536 + f.val, by omega⟩

/-- One token's output of an expert. -/
def ffn (x : Fin 4096 → EReal) (gu : Fin 4096 → Fin 3072 → EReal) (dn : Fin 1536 → Fin 4096 → EReal) (c : Fin 4096) : EReal :=
  ∑ f : Fin 1536, hid x gu f * dn f c

/-- The kernel's two shifts read the low nibble. -/
theorem code_low (b : BitVec 8) :
    (BitVec.setWidth 8 (IntOp.shrsi ArithUnit.vector (IntOp.shli ArithUnit.vector (BitVec.setWidth 32 b) 28#32) 28#32)).toInt = code b 0 := by
  have h : ∀ n : Fin 256, (BitVec.setWidth 8 (IntOp.shrsi ArithUnit.vector (IntOp.shli ArithUnit.vector (BitVec.setWidth 32 (BitVec.ofFin (w := 8) n)) 28#32) 28#32)).toInt
      = code (BitVec.ofFin (w := 8) n) 0 := by decide +kernel
  exact h b.toFin

/-- The kernel's two shifts read the high nibble. -/
theorem code_high (b : BitVec 8) :
    (BitVec.setWidth 8 (IntOp.shrsi ArithUnit.vector (IntOp.shli ArithUnit.vector (BitVec.setWidth 32 b) 24#32) 28#32)).toInt = code b 1 := by
  have h : ∀ n : Fin 256, (BitVec.setWidth 8 (IntOp.shrsi ArithUnit.vector (IntOp.shli ArithUnit.vector (BitVec.setWidth 32 (BitVec.ofFin (w := 8) n)) 24#32) 28#32)).toInt
      = code (BitVec.ofFin (w := 8) n) 1 := by decide +kernel
  exact h b.toFin

/-- The low nibble, its number given by an equation. -/
theorem code_low' (b : BitVec 8) {k : Nat} (hk : k = 0) :
    (BitVec.setWidth 8 (IntOp.shrsi ArithUnit.vector (IntOp.shli ArithUnit.vector (BitVec.setWidth 32 b) 28#32) 28#32)).toInt = code b k := by
  subst hk; exact code_low b

/-- The high nibble, its number given by an equation. -/
theorem code_high' (b : BitVec 8) {k : Nat} (hk : k = 1) :
    (BitVec.setWidth 8 (IntOp.shrsi ArithUnit.vector (IntOp.shli ArithUnit.vector (BitVec.setWidth 32 b) 24#32) 28#32)).toInt = code b k := by
  subst hk; exact code_high b

end Cert.Spec

end
-- ==== Proof.RefWeights.lean ====
/- The reference's dequantised weights at an index. -/
module

public import proofs.«01_k».proof.Proof.Spec
public import proofs.«01_k».proof.Proof.Gen.ReferenceIdeal.Read

@[expose] public section

set_option maxRecDepth 16384

noncomputable section

namespace Cert.ReferenceIdeal.Value

open Idealize.ShloMosaic Idealize.ShloMosaic.TcCoe Idealize.SL Idealize.SL.Sem
open Cert.ReferenceIdeal.Gen Cert.ReferenceIdeal.Read

/-- The reference's nibble of a byte: sign-extended by subtracting sixteen from the codes above seven, through eight bits. -/
abbrev signed (c : BitVec 32) : BitVec 32 :=
  BitVec.signExtend 32 (BitVec.setWidth 8 (Scalar.select (IntOp.cmpi .sgt c 7#32) (IntOp.subi c 16#32) c))

/-- The reference's low nibble. -/
theorem signed_low (b : BitVec 8) : (signed (IntOp.andi (BitVec.setWidth 32 b) 15#32)).toInt = Spec.code b 0 := by
  have h : ∀ n : Fin 256, (signed (IntOp.andi (BitVec.setWidth 32 (BitVec.ofFin (w := 8) n)) 15#32)).toInt
      = Spec.code (BitVec.ofFin (w := 8) n) 0 := by decide +kernel
  exact h b.toFin

/-- The reference's high nibble. -/
theorem signed_high (b : BitVec 8) :
    (signed (IntOp.andi (IntOp.shrsi .host (BitVec.setWidth 32 b) 4#32) 15#32)).toInt = Spec.code b 1 := by
  have h : ∀ n : Fin 256, (signed (IntOp.andi (IntOp.shrsi .host (BitVec.setWidth 32 (BitVec.ofFin (w := 8) n)) 4#32) 15#32)).toInt
      = Spec.code (BitVec.ofFin (w := 8) n) 1 := by decide +kernel
  exact h b.toFin

/-- A low-nibble weight of the reference. -/
theorem low_apply (b : BitVec 8) {k : Nat} (hk : k = 0) (s : EReal) :
    (FloatOps.sitofp (F := Ideal) FTy.f32 (signed (IntOp.andi (BitVec.setWidth 32 b) 15#32)) : EReal) * s = Spec.deq b k s := by
  subst hk
  unfold Spec.deq
  exact congrArg (fun z : Int => ((z : ℝ) : EReal) * s) (signed_low b)

/-- A high-nibble weight of the reference. -/
theorem high_apply (b : BitVec 8) {k : Nat} (hk : k = 1) (s : EReal) :
    (FloatOps.sitofp (F := Ideal) FTy.f32 (signed (IntOp.andi (IntOp.shrsi .host (BitVec.setWidth 32 b) 4#32) 15#32)) : EReal) * s = Spec.deq b k s := by
  subst hk
  unfold Spec.deq
  exact congrArg (fun z : Int => ((z : ℝ) : EReal) * s) (signed_high b)

/-- The reference's gate and up weights at an index. -/
theorem gu_apply (x2 : (⟨S16x2048x3072, .i8⟩ : BufTy).Contents (Elt Ideal)) (x3 : (⟨S16x32x3072, .f32⟩ : BufTy).Contents (Elt Ideal)) (e : Fin 16) (d : Fin 4096) (f : Fin 3072) :
    val_main_v39 (F := Ideal) x2 x3 (ix3 e d f) = Spec.matrix (fun r f => x2 (ix3 e r f)) (fun r f => x3 (ix3 e r f)) (r := 4096) rfl rfl d f := by
  pointwise [val_main_v39, val_main_v38, val_main_v34, val_main_v33, val_main_v32, val_main_v31, val_main_v30, val_main_v29, val_main_v37, val_main_v36, val_main_v35]
  pointwise [val_main_v28, val_main_v25, val_main_v27, val_main_v26, val_main_v24, val_main_c_4, val_main_c_5, val_main_v23, val_main_v21, val_main_v22, val_main_v20, val_main_v16, val_main_v19, val_main_v18, val_main_v17, val_main_v15, val_main_v14, val_main_c, val_main_c_2, val_main_c_3]
  show _ = Spec.deq (x2 (ix3 e ⟨d.val / 2, by omega⟩ f)) (d.val % 2) (x3 (ix3 e ⟨d.val / 128, by omega⟩ f))
  by_cases h : d.val % 2 < 1
  · simp only [h, dif_pos]
    generalize x2 (ix3 e ⟨d.val / 2, _⟩ f) = b
    generalize x3 (ix3 e ⟨d.val / 128, _⟩ f) = s
    exact low_apply b (by omega) s
  · simp only [h, dif_neg, not_false_eq_true]
    generalize x2 (ix3 e ⟨d.val / 2, _⟩ f) = b
    generalize x3 (ix3 e ⟨d.val / 128, _⟩ f) = s
    exact high_apply b (by omega) s

/-- The reference's down weights at an index. -/
theorem dn_apply (x4 : (⟨S16x768x4096, .i8⟩ : BufTy).Contents (Elt Ideal)) (x5 : (⟨S16x12x4096, .f32⟩ : BufTy).Contents (Elt Ideal)) (e : Fin 16) (d : Fin 1536) (f : Fin 4096) :
    val_main_v78 (F := Ideal) x4 x5 (ix3 e d f) = Spec.matrix (fun r f => x4 (ix3 e r f)) (fun r f => x5 (ix3 e r f)) (r := 1536) rfl rfl d f := by
  pointwise [val_main_v78, val_main_v77, val_main_v73, val_main_v72, val_main_v71, val_main_v70, val_main_v69, val_main_v68, val_main_v76, val_main_v75, val_main_v74]
  pointwise [val_main_v67, val_main_v64, val_main_v66, val_main_v65, val_main_v63, val_main_c_11, val_main_c_12, val_main_v62, val_main_v60, val_main_v61, val_main_v59, val_main_v55, val_main_v58, val_main_v57, val_main_v56, val_main_v54, val_main_v53, val_main_c_8, val_main_c_9, val_main_c_10]
  show _ = Spec.deq (x4 (ix3 e ⟨d.val / 2, by omega⟩ f)) (d.val % 2) (x5 (ix3 e ⟨d.val / 128, by omega⟩ f))
  by_cases h : d.val % 2 < 1
  · simp only [h, dif_pos]
    generalize x4 (ix3 e ⟨d.val / 2, _⟩ f) = b
    generalize x5 (ix3 e ⟨d.val / 128, _⟩ f) = s
    exact low_apply b (by omega) s
  · simp only [h, dif_neg, not_false_eq_true]
    generalize x4 (ix3 e ⟨d.val / 2, _⟩ f) = b
    generalize x5 (ix3 e ⟨d.val / 128, _⟩ f) = s
    exact high_apply b (by omega) s

end Cert.ReferenceIdeal.Value

end
-- ==== Proof.RefGather.lean ====
/- The reference's pick of an expert's weights, read at an index. -/
module

public import proofs.«01_k».proof.Proof.RefRoute
public import proofs.«01_k».proof.Proof.RefWeights

@[expose] public section

set_option maxRecDepth 16384

noncomputable section

namespace Cert.ReferenceIdeal.Value

open Idealize.ShloMosaic Idealize.ShloMosaic.TcCoe Idealize.SL Idealize.SL.Sem
open Cert.ReferenceIdeal.Gen Cert.ReferenceIdeal.Read

section generic
variable {α : Type} {E A B T K w : Nat}

/-- The dimension numbers of picking whole matrices of a stack, one for each token and slot. -/
abbrev pickDims (E A B T K : Nat)
    (wf : GatherDims.WF ⟨3, ![E, A, B]⟩ ⟨3, ![T, K, 1]⟩ ⟨4, ![T, K, A, B]⟩ [2, 3] [0] [] [0] [] 2 ![1, A, B]) :
    GatherDims ⟨3, ![E, A, B]⟩ ⟨3, ![T, K, 1]⟩ ⟨4, ![T, K, A, B]⟩ where
  offsetDims := [2, 3]
  collapsedSliceDims := [0]
  operandBatchingDims := []
  startIndicesBatchingDims := []
  startIndexMap := [0]
  indexVectorDim := 2
  sliceSizes := ![1, A, B]
  wf := wf

/-- The pick read at an index: the matrix at the start index, clamped into the stack. -/
theorem gather_pick_apply
    (wf : GatherDims.WF ⟨3, ![E, A, B]⟩ ⟨3, ![T, K, 1]⟩ ⟨4, ![T, K, A, B]⟩ [2, 3] [0] [] [0] [] 2 ![1, A, B])
    (x : (⟨3, ![E, A, B]⟩ : Shape).Idx → α) (idx : IVec ⟨3, ![T, K, 1]⟩ w) (t : Fin T) (k : Fin K) (a : Fin A) (b : Fin B)
    (e : Fin E) (he : min (idx (ix3 t k 0)).toInt.toNat (E - 1) = e.val) :
    Host.gather (pickDims E A B T K wf) x idx (ix4 t k a b) = x (ix3 e a b) := by
  unfold Host.gather
  congr 1
  funext i
  refine Fin.ext ?_
  show (pickDims E A B T K wf).start (ix4 t k a b) idx i + (pickDims E A B T K wf).batchCoord (ix4 t k a b) i
      + (pickDims E A B T K wf).offCoord (ix4 t k a b) i = _
  rw [GatherDims.batchCoord_eq_zero _ _ _ List.not_mem_nil, Nat.add_zero]
  have h012 : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (pickDims E A B T K wf).startIndexMap from List.mem_singleton.mpr rfl)]
    have hsi : (pickDims E A B T K wf).siIdx (ix4 t k a b) ⟨List.idxOf (0 : Fin 3) (pickDims E A B T K wf).startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi]
    exact he
  · unfold GatherDims.start GatherDims.offCoord
    rw [dif_neg (show (1 : Fin 3) ∉ (pickDims E A B T K wf).startIndexMap from (by decide : (1 : Fin 3) ∉ [(0 : Fin 3)])),
      dif_pos ((GatherDims.mem_sKept (pickDims E A B T K wf) 1).mpr ⟨show (1 : Fin 3) ∉ [(0 : Fin 3)] by decide, List.not_mem_nil⟩),
      Nat.zero_add]
    rfl
  · unfold GatherDims.start GatherDims.offCoord
    rw [dif_neg (show (2 : Fin 3) ∉ (pickDims E A B T K wf).startIndexMap from (by decide : (2 : Fin 3) ∉ [(0 : Fin 3)])),
      dif_pos ((GatherDims.mem_sKept (pickDims E A B T K wf) 2).mpr ⟨show (2 : Fin 3) ∉ [(0 : Fin 3)] by decide, List.not_mem_nil⟩),
      Nat.zero_add]
    rfl

end generic

/-- An expert's number is not negative, so the wrap of negative indices leaves it. -/
theorem wrap_index (e : Fin 16) :
    min (Scalar.select (IntOp.cmpi .slt (BitVec.ofNat 32 e.val) 0#32) (IntOp.addi (BitVec.ofNat 32 e.val) 16#32) (BitVec.ofNat 32 e.val)).toInt.toNat 15 = e.val := by
  revert e; decide +kernel

section pick
variable (x0 : (⟨S192x1x4096, .bf16⟩ : BufTy).Contents (Elt Ideal)) (x1 : (⟨S4096x16, .f32⟩ : BufTy).Contents (Elt Ideal))
  (x2 : (⟨S16x2048x3072, .i8⟩ : BufTy).Contents (Elt Ideal)) (x3 : (⟨S16x32x3072, .f32⟩ : BufTy).Contents (Elt Ideal))
  (x4 : (⟨S16x768x4096, .i8⟩ : BufTy).Contents (Elt Ideal)) (x5 : (⟨S16x12x4096, .f32⟩ : BufTy).Contents (Elt Ideal))

/-- The expert of a token's slot. -/
abbrev slot (t : Fin 192) (k : Fin 8) : Fin 16 := Ranking.pick (fun e => val_main_v2 (F := Ideal) x0 x1 (ix2 t e)) k

/-- The index the gate and up matrices are picked at. -/
theorem gu_index (t : Fin 192) (k : Fin 8) :
    min (val_main_v45 (F := Ideal) x0 x1 (ix3 t k 0)).toInt.toNat (16 - 1) = (slot x0 x1 t k).val := by
  have hv : val_main_indices (F := Ideal) x0 x1 (ix2 t k) = _ := topK_indices _ sliceFits_S192x16_S192x8 t k
  generalize hV : val_main_indices (F := Ideal) x0 x1 = V at hv
  pointwise [val_main_v45, val_main_v44, val_main_v43, val_main_v42, val_main_v41, val_main_v40, val_main_c_6, val_main_c_7, hV]
  rw [hv]
  exact wrap_index _

/-- The index the down matrices are picked at. -/
theorem dn_index (t : Fin 192) (k : Fin 8) :
    min (val_main_v84 (F := Ideal) x0 x1 (ix3 t k 0)).toInt.toNat (16 - 1) = (slot x0 x1 t k).val := by
  have hv : val_main_indices (F := Ideal) x0 x1 (ix2 t k) = _ := topK_indices _ sliceFits_S192x16_S192x8 t k
  generalize hV : val_main_indices (F := Ideal) x0 x1 = V at hv
  pointwise [val_main_v84, val_main_v83, val_main_v82, val_main_v81, val_main_v80, val_main_v79, val_main_c_13, val_main_c_14, hV]
  rw [hv]
  exact wrap_index _

/-- The gate and up matrix of a token's slot. -/
theorem gu_pick (t : Fin 192) (k : Fin 8) (d : Fin 4096) (f : Fin 3072) :
    val_main_v46 (F := Ideal) x0 x1 x2 x3 (ix4 t k d f) = val_main_v39 (F := Ideal) x2 x3 (ix3 (slot x0 x1 t k) d f) :=
  gather_pick_apply gather_S16x4096x3072_S192x8x1_S192x8x4096x3072_23_0_n_n_0_2_140963072_wf _ _ t k d f _ (gu_index x0 x1 t k)

/-- The down matrix of a token's slot. -/
theorem dn_pick (t : Fin 192) (k : Fin 8) (d : Fin 1536) (f : Fin 4096) :
    val_main_v85 (F := Ideal) x0 x1 x4 x5 (ix4 t k d f) = val_main_v78 (F := Ideal) x4 x5 (ix3 (slot x0 x1 t k) d f) :=
  gather_pick_apply gather_S16x1536x4096_S192x8x1_S192x8x1536x4096_23_0_n_n_0_2_115364096_wf _ _ t k d f _ (dn_index x0 x1 t k)

end pick

end Cert.ReferenceIdeal.Value

end
-- ==== Proof.RefValue.lean ====
/- The reference's result at an index: the sum over the eight slots of an expert's output times its share. -/
module

public import proofs.«01_k».proof.Proof.RefGather

@[expose] public section

set_option maxRecDepth 16384

noncomputable section

namespace Cert.ReferenceIdeal.Value

open Idealize.ShloMosaic Idealize.ShloMosaic.TcCoe Idealize.SL Idealize.SL.Sem
open Cert.ReferenceIdeal.Gen Cert.ReferenceIdeal.Read

variable (x0 : (⟨S192x1x4096, .bf16⟩ : BufTy).Contents (Elt Ideal)) (x1 : (⟨S4096x16, .f32⟩ : BufTy).Contents (Elt Ideal))
  (x2 : (⟨S16x2048x3072, .i8⟩ : BufTy).Contents (Elt Ideal)) (x3 : (⟨S16x32x3072, .f32⟩ : BufTy).Contents (Elt Ideal))
  (x4 : (⟨S16x768x4096, .i8⟩ : BufTy).Contents (Elt Ideal)) (x5 : (⟨S16x12x4096, .f32⟩ : BufTy).Contents (Elt Ideal))

/-- One token's row of inputs. -/
abbrev row (t : Fin 192) : Fin 4096 → EReal := fun d => x0 (ix3 t 0 d)

/-- One expert's gate and up matrix. -/
abbrev guR (e : Fin 16) : Fin 4096 → Fin 3072 → EReal :=
  Spec.matrix (fun r f => x2 (ix3 e r f)) (fun r f => x3 (ix3 e r f)) (r := 4096) rfl rfl

/-- One expert's down matrix. -/
abbrev dnR (e : Fin 16) : Fin 1536 → Fin 4096 → EReal :=
  Spec.matrix (fun r f => x4 (ix3 e r f)) (fun r f => x5 (ix3 e r f)) (r := 1536) rfl rfl

/-- The first product at an index: the pre-activations of the slot's expert. -/
theorem pre_apply (t : Fin 192) (k : Fin 8) (f : Fin 3072) :
    val_main_v47 (F := Ideal) x0 x1 x2 x3 (ix3 t k f) = Spec.preAct (row x0 t) (guR x2 x3 (slot x0 x1 t k)) f := by
  rw [val_main_v47_apply]
  refine Finset.sum_congr rfl fun d _ => ?_
  have hl : lidx_main_v47 (ix3 t k f) d = ix2 t d := eq_ix2 _
  have hr : ridx_main_v47 (ix3 t k f) d = ix4 t k d f := eq_ix4 _
  rw [hl, hr, gu_pick, gu_apply]
  congr 1
  pointwise [val_main_v0]

/-- The hidden layer at an index. -/
theorem hid_apply (t : Fin 192) (k : Fin 8) (f : Fin 1536) :
    val_main_v52 (F := Ideal) x0 x1 x2 x3 (ix3 t k f) = Spec.hid (row x0 t) (guR x2 x3 (slot x0 x1 t k)) f := by
  have hp := pre_apply x0 x1 x2 x3 t k
  generalize hV : val_main_v47 (F := Ideal) x0 x1 x2 x3 = V at hp
  pointwise [val_main_v52, val_main_v51, val_main_v50, val_main_v49, val_main_v48, val_main_call1_v0, val_main_call1_v1, val_main_call1_v2, val_main_call1_v3, val_main_call1_v4, val_main_call1_v5, val_main_call1_cst, val_main_call1_cst_0, hV]
  rw [hp, hp]
  rfl

/-- The second product at an index: the slot's expert's output. -/
theorem out_apply (t : Fin 192) (k : Fin 8) (c : Fin 4096) :
    val_main_v86 (F := Ideal) x0 x1 x2 x3 x4 x5 (ix3 t k c)
      = Spec.ffn (row x0 t) (guR x2 x3 (slot x0 x1 t k)) (dnR x4 x5 (slot x0 x1 t k)) c := by
  rw [val_main_v86_apply]
  refine Finset.sum_congr rfl fun f _ => ?_
  have hl : lidx_main_v86 (ix3 t k c) f = ix3 t k f := eq_ix3 _
  have hr : ridx_main_v86 (ix3 t k c) f = ix4 t k f c := eq_ix4 _
  rw [hl, hr, dn_pick, dn_apply, hid_apply]

/-- The reference's result at an index. -/
theorem result_apply (t : Fin 192) (c : Fin 4096) :
    val_main_v91 (F := Ideal) x0 x1 x2 x3 x4 x5 (ix2 t c)
      = ∑ k : Fin 8, Spec.ffn (row x0 t) (guR x2 x3 (slot x0 x1 t k)) (dnR x4 x5 (slot x0 x1 t k)) c
          * Ranking.weightAt (fun e => val_main_v2 (F := Ideal) x0 x1 (ix2 t e)) k := by
  have ho := fun k => out_apply x0 x1 x2 x3 x4 x5 t k c
  have hp := probs_apply x0 x1 t
  generalize hV : val_main_v86 (F := Ideal) x0 x1 x2 x3 x4 x5 = V at ho
  generalize hP : val_main_v13 (F := Ideal) x0 x1 = P at hp
  pointwise [val_main_v91, val_main_v90, val_main_v89, val_main_v88, val_main_v87, val_main_cst_15, hV, hP]
  exact Finset.sum_congr rfl fun k _ => by rw [ho, hp]

end Cert.ReferenceIdeal.Value

end
-- ==== Proof.Tiles.lean ====
/- The kernel's grid point in uniform terms: its six tiles of the hidden layer are one function of their operands, and its
   eight tiles of the down product are one function of theirs. -/
module

public import proofs.«01_k».proof.Proof.Gen.KernelIdeal.Value

@[expose] public section

set_option maxRecDepth 16384

noncomputable section

namespace Cert.KernelIdeal.Gen

open Idealize.ShloMosaic Idealize.ShloMosaic.TcCoe Idealize.SL Idealize.SL.Sem

variable {F : FTy → Type} [FloatOps F]

/-- A tile of 256 columns of an expert's gate or up weights: the codes' nibbles, row by row, times their block's scale. -/
def inWeights (v5 : Vec F S1x2048x256 .i8) (v7 : Vec F S1x32x256 .f32) : FVec F S4096x256 .bf16 :=
  have v6 : IVec S2048x256 8 := shapeCast S2048x256 v5 shapeCasts_S1x2048x256_S2048x256
  have v8 : FVec F S32x256 .f32 := shapeCast S32x256 v7 shapeCasts_S1x32x256_S32x256
  have v9 : IVec S2048x256 32 := extui 32 v6 natLt_8_32
  have v10 : IVec S2048x256 32 := broadcast S2048x256 28#32
  have v11 : IVec S2048x256 32 := shli v9 v10
  have v12 : IVec S2048x256 32 := broadcast S2048x256 28#32
  have v13 : IVec S2048x256 32 := shrsi v11 v12
  have v14 : IVec S2048x256 32 := broadcast S2048x256 24#32
  have v15 : IVec S2048x256 32 := shli v9 v14
  have v16 : IVec S2048x256 32 := broadcast S2048x256 28#32
  have v17 : IVec S2048x256 32 := shrsi v15 v16
  have v18 : IVec S2048x1x256 32 := shapeCast S2048x1x256 v13 shapeCasts_S2048x256_S2048x1x256
  have v19 : IVec S2048x1x256 32 := shapeCast S2048x1x256 v17 shapeCasts_S2048x256_S2048x1x256
  have v20 : IVec S2048x2x256 32 := concatenate S2048x2x256 1 [⟨S2048x1x256, v18⟩, ⟨S2048x1x256, v19⟩] concatenates_S2048x1x256_S2048x1x256_S2048x2x256_d1
  have v21 : IVec S4096x256 32 := shapeCast S4096x256 v20 shapeCasts_S2048x2x256_S4096x256
  have v22 : IVec S4096x256 8 := trunci 8 v21 natLt_8_32
  have v23 : FVec F S4096x256 .bf16 := sitofp .bf16 v22
  have v24 : FVec F S32x128x256 .bf16 := shapeCast S32x128x256 v23 shapeCasts_S4096x256_S32x128x256
  have v25 : FVec F S32x256 .bf16 := truncf .bf16 v8 bitsLt_bf16_f32
  have v26 : FVec F S32x1x256 .bf16 := shapeCast S32x1x256 v25 shapeCasts_S32x256_S32x1x256
  have v27 : FVec F S32x128x256 .bf16 := broadcastTo S32x128x256 v26 broadcasts_S32x1x256_S32x128x256
  have v28 : FVec F S32x128x256 .bf16 := mulf v24 v27
  have v29 : FVec F S4096x256 .bf16 := shapeCast S4096x256 v28 shapeCasts_S32x128x256_S4096x256
  v29

/-- A tile of 512 columns of an expert's down weights. -/
def outWeights (v365 : Vec F S1x768x512 .i8) (v367 : Vec F S1x12x512 .f32) : FVec F S1536x512 .bf16 :=
  have v366 : IVec S768x512 8 := shapeCast S768x512 v365 shapeCasts_S1x768x512_S768x512
  have v368 : FVec F S12x512 .f32 := shapeCast S12x512 v367 shapeCasts_S1x12x512_S12x512
  have v369 : IVec S768x512 32 := extui 32 v366 natLt_8_32
  have v370 : IVec S768x512 32 := broadcast S768x512 28#32
  have v371 : IVec S768x512 32 := shli v369 v370
  have v372 : IVec S768x512 32 := broadcast S768x512 28#32
  have v373 : IVec S768x512 32 := shrsi v371 v372
  have v374 : IVec S768x512 32 := broadcast S768x512 24#32
  have v375 : IVec S768x512 32 := shli v369 v374
  have v376 : IVec S768x512 32 := broadcast S768x512 28#32
  have v377 : IVec S768x512 32 := shrsi v375 v376
  have v378 : IVec S768x1x512 32 := shapeCast S768x1x512 v373 shapeCasts_S768x512_S768x1x512
  have v379 : IVec S768x1x512 32 := shapeCast S768x1x512 v377 shapeCasts_S768x512_S768x1x512
  have v380 : IVec S768x2x512 32 := concatenate S768x2x512 1 [⟨S768x1x512, v378⟩, ⟨S768x1x512, v379⟩] concatenates_S768x1x512_S768x1x512_S768x2x512_d1
  have v381 : IVec S1536x512 32 := shapeCast S1536x512 v380 shapeCasts_S768x2x512_S1536x512
  have v382 : IVec S1536x512 8 := trunci 8 v381 natLt_8_32
  have v383 : FVec F S1536x512 .bf16 := sitofp .bf16 v382
  have v384 : FVec F S12x128x512 .bf16 := shapeCast S12x128x512 v383 shapeCasts_S1536x512_S12x128x512
  have v385 : FVec F S12x512 .bf16 := truncf .bf16 v368 bitsLt_bf16_f32
  have v386 : FVec F S12x1x512 .bf16 := shapeCast S12x1x512 v385 shapeCasts_S12x512_S12x1x512
  have v387 : FVec F S12x128x512 .bf16 := broadcastTo S12x128x512 v386 broadcasts_S12x1x512_S12x128x512
  have v388 : FVec F S12x128x512 .bf16 := mulf v384 v387
  have v389 : FVec F S1536x512 .bf16 := shapeCast S1536x512 v388 shapeCasts_S12x128x512_S1536x512
  v389

/-- The activations times a tile of gate or up weights. -/
def inProduct (x : Vec F S192x4096 .bf16) (q : Vec F S1x2048x256 .i8) (s : Vec F S1x32x256 .f32) : FVec F S192x256 .f32 :=
  matmul dot_S192x4096_S4096x256_S192x256_1_0_0_1_n_n none (k0_pay31 x) (inWeights q s) (constant S192x256 .f32 0x00000000#32)

/-- A tile of the hidden layer: the gated unit of a gate tile and an up tile. -/
def hidTile (x : Vec F S192x4096 .bf16) (gq : Vec F S1x2048x256 .i8) (gs : Vec F S1x32x256 .f32)
    (uq : Vec F S1x2048x256 .i8) (us : Vec F S1x32x256 .f32) : FVec F S192x256 .bf16 :=
  shapeCast S192x256 (truncf .bf16 (mulf (mulf (inProduct x gq gs) (logistic (inProduct x gq gs))) (inProduct x uq us)) bitsLt_bf16_f32)
    shapeCasts_S192x256_S192x256

/-- A tile of the accumulator: what it held plus, where the expert's weight is positive, the down product times the weight. -/
def outTile (hid : Vec F S192x1536 .bf16) (w : Vec F S1x192x128 .f32) (q : Vec F S1x768x512 .i8) (s : Vec F S1x12x512 .f32)
    (a : Vec F S192x512 .f32) : FVec F S192x512 .f32 :=
  shapeCast S192x512
    (addf a (select
      (concatenate S192x512 1 [⟨S192x128, k0_pay60 w⟩, ⟨S192x128, k0_pay60 w⟩, ⟨S192x128, k0_pay60 w⟩, ⟨S192x128, k0_pay60 w⟩] concatenates_S192x128_S192x128_S192x128_S192x128_S192x512_d1)
      (mulf (matmul dot_S192x1536_S1536x512_S192x512_1_0_0_1_n_n none hid (outWeights q s) (constant S192x512 .f32 0x00000000#32))
        (concatenate S192x512 1 [⟨S192x128, k0_pay59 w⟩, ⟨S192x128, k0_pay59 w⟩, ⟨S192x128, k0_pay59 w⟩, ⟨S192x128, k0_pay59 w⟩] concatenates_S192x128_S192x128_S192x128_S192x128_S192x512_d1))
      (broadcast S192x512 (Scalar.ofBits .f32 0x00000000#32))))
    shapeCasts_S192x512_S192x512

section bridges
variable (x : Vec F S192x4096 .bf16) (gq : Vec F S1x2048x256 .i8) (gs : Vec F S1x32x256 .f32)
    (uq : Vec F S1x2048x256 .i8) (us : Vec F S1x32x256 .f32)
    (hid : Vec F S192x1536 .bf16) (w : Vec F S1x192x128 .f32) (q : Vec F S1x768x512 .i8) (s : Vec F S1x12x512 .f32)
    (a : Vec F S192x512 .f32)

/-- The payload of hidden tile 0 is the uniform tile. -/
theorem hid_bridge_0 : k0_pay35 (k0_pay31 x) (k0_pay32 x gq gs) (k0_pay33 us) (k0_pay34 uq) 28#32 = hidTile x gq gs uq us := rfl

/-- The payload of hidden tile 1 is the uniform tile. -/
theorem hid_bridge_1 : k0_pay40 (k0_pay31 x) (k0_pay36 gs) (k0_pay38 gq) (k0_pay39 gq) uq us = hidTile x gq gs uq us := rfl

/-- The payload of hidden tile 2 is the uniform tile. -/
theorem hid_bridge_2 : k0_pay46 (k0_pay31 x) (k0_pay41 (k0_pay31 x) gq gs) (k0_pay42 us) (k0_pay44 uq) (k0_pay45 uq) = hidTile x gq gs uq us := rfl

/-- The payload of hidden tile 3 is the uniform tile. -/
theorem hid_bridge_3 : k0_pay48 (k0_pay31 x) (k0_pay47 (k0_pay31 x) gq gs) uq us = hidTile x gq gs uq us := rfl

/-- The payload of hidden tile 4 is the uniform tile. -/
theorem hid_bridge_4 : k0_pay54 (k0_pay31 x) (k0_pay52 (k0_pay31 x) (k0_pay49 gs) (k0_pay50 gq) k0_pay51) (k0_pay53 uq us) (constant S192x256 FTy.f32 0#32) = hidTile x gq gs uq us := rfl

/-- The payload of hidden tile 5 is the uniform tile. -/
theorem hid_bridge_5 : k0_pay58 (k0_pay31 x) (k0_pay55 (k0_pay31 x) gq gs) (k0_pay56 us) (k0_pay57 uq) 28#32 = hidTile x gq gs uq us := rfl

/-- The payload of accumulator tile 0 is the uniform tile. -/
theorem out_bridge_0 : k0_pay64 hid (k0_pay59 w) (k0_pay60 w) (k0_pay61 s) (k0_pay62 q) (k0_pay63 q) a = outTile hid w q s a := rfl

/-- The payload of accumulator tile 1 is the uniform tile. -/
theorem out_bridge_1 : k0_pay69 hid (k0_pay59 w) (k0_pay60 w) (k0_pay65 s) (k0_pay67 q) (k0_pay68 q) 28#32 a = outTile hid w q s a := rfl

/-- The payload of accumulator tile 2 is the uniform tile. -/
theorem out_bridge_2 : k0_pay72 hid (k0_pay59 w) (k0_pay60 w) (k0_pay70 s) (k0_pay71 q) a = outTile hid w q s a := rfl

/-- The payload of accumulator tile 3 is the uniform tile. -/
theorem out_bridge_3 : k0_pay74 hid (k0_pay59 w) (k0_pay60 w) (k0_pay73 q s) a = outTile hid w q s a := rfl

/-- The payload of accumulator tile 4 is the uniform tile. -/
theorem out_bridge_4 : k0_pay78 (k0_pay75 (k0_pay60 w)) (k0_pay76 hid (k0_pay59 w) q s) k0_pay77 a = outTile hid w q s a := rfl

/-- The payload of accumulator tile 5 is the uniform tile. -/
theorem out_bridge_5 : k0_pay80 (k0_pay79 hid (k0_pay59 w) (k0_pay60 w) q s a) = outTile hid w q s a := rfl

/-- The payload of accumulator tile 6 is the uniform tile. -/
theorem out_bridge_6 : k0_pay81 hid (k0_pay59 w) (k0_pay60 w) q s a = outTile hid w q s a := rfl

/-- The payload of accumulator tile 7 is the uniform tile. -/
theorem out_bridge_7 : k0_pay1 (k0_pay82 hid (k0_pay59 w) (k0_pay60 w) q s a) = outTile hid w q s a := rfl

end bridges

/-- The six tiles the hidden layer is stored in, last first. -/
def hidPieces (x0 : Vec F S192x4096 .bf16) (x2 : Vec F S1x2048x3072 .i8) (x3 : Vec F S1x32x3072 .f32) : List (View.Piece (Elt F) S192x1536 .bf16) :=
  [⟨Rect.unit ![0, 1280] ![192, 256] inb_S192x1536_S192x256_0_1280,
      hidTile (View.ld x0 (Rect.unit ![0, 0] ![192, 4096] inb_S192x4096_S192x4096_0_0))
        (View.ld x2 (Rect.unit ![0, 0, 1280] ![1, 2048, 256] inb_S1x2048x3072_S1x2048x256_0_0_1280)) (View.ld x3 (Rect.unit ![0, 0, 1280] ![1, 32, 256] inb_S1x32x3072_S1x32x256_0_0_1280))
        (View.ld x2 (Rect.unit ![0, 0, 2816] ![1, 2048, 256] inb_S1x2048x3072_S1x2048x256_0_0_2816)) (View.ld x3 (Rect.unit ![0, 0, 2816] ![1, 32, 256] inb_S1x32x3072_S1x32x256_0_0_2816))⟩,
    ⟨Rect.unit ![0, 1024] ![192, 256] inb_S192x1536_S192x256_0_1024,
      hidTile (View.ld x0 (Rect.unit ![0, 0] ![192, 4096] inb_S192x4096_S192x4096_0_0))
        (View.ld x2 (Rect.unit ![0, 0, 1024] ![1, 2048, 256] inb_S1x2048x3072_S1x2048x256_0_0_1024)) (View.ld x3 (Rect.unit ![0, 0, 1024] ![1, 32, 256] inb_S1x32x3072_S1x32x256_0_0_1024))
        (View.ld x2 (Rect.unit ![0, 0, 2560] ![1, 2048, 256] inb_S1x2048x3072_S1x2048x256_0_0_2560)) (View.ld x3 (Rect.unit ![0, 0, 2560] ![1, 32, 256] inb_S1x32x3072_S1x32x256_0_0_2560))⟩,
    ⟨Rect.unit ![0, 768] ![192, 256] inb_S192x1536_S192x256_0_768,
      hidTile (View.ld x0 (Rect.unit ![0, 0] ![192, 4096] inb_S192x4096_S192x4096_0_0))
        (View.ld x2 (Rect.unit ![0, 0, 768] ![1, 2048, 256] inb_S1x2048x3072_S1x2048x256_0_0_768)) (View.ld x3 (Rect.unit ![0, 0, 768] ![1, 32, 256] inb_S1x32x3072_S1x32x256_0_0_768))
        (View.ld x2 (Rect.unit ![0, 0, 2304] ![1, 2048, 256] inb_S1x2048x3072_S1x2048x256_0_0_2304)) (View.ld x3 (Rect.unit ![0, 0, 2304] ![1, 32, 256] inb_S1x32x3072_S1x32x256_0_0_2304))⟩,
    ⟨Rect.unit ![0, 512] ![192, 256] inb_S192x1536_S192x256_0_512,
      hidTile (View.ld x0 (Rect.unit ![0, 0] ![192, 4096] inb_S192x4096_S192x4096_0_0))
        (View.ld x2 (Rect.unit ![0, 0, 512] ![1, 2048, 256] inb_S1x2048x3072_S1x2048x256_0_0_512)) (View.ld x3 (Rect.unit ![0, 0, 512] ![1, 32, 256] inb_S1x32x3072_S1x32x256_0_0_512))
        (View.ld x2 (Rect.unit ![0, 0, 2048] ![1, 2048, 256] inb_S1x2048x3072_S1x2048x256_0_0_2048)) (View.ld x3 (Rect.unit ![0, 0, 2048] ![1, 32, 256] inb_S1x32x3072_S1x32x256_0_0_2048))⟩,
    ⟨Rect.unit ![0, 256] ![192, 256] inb_S192x1536_S192x256_0_256,
      hidTile (View.ld x0 (Rect.unit ![0, 0] ![192, 4096] inb_S192x4096_S192x4096_0_0))
        (View.ld x2 (Rect.unit ![0, 0, 256] ![1, 2048, 256] inb_S1x2048x3072_S1x2048x256_0_0_256)) (View.ld x3 (Rect.unit ![0, 0, 256] ![1, 32, 256] inb_S1x32x3072_S1x32x256_0_0_256))
        (View.ld x2 (Rect.unit ![0, 0, 1792] ![1, 2048, 256] inb_S1x2048x3072_S1x2048x256_0_0_1792)) (View.ld x3 (Rect.unit ![0, 0, 1792] ![1, 32, 256] inb_S1x32x3072_S1x32x256_0_0_1792))⟩,
    ⟨Rect.unit ![0, 0] ![192, 256] inb_S192x1536_S192x256_0_0,
      hidTile (View.ld x0 (Rect.unit ![0, 0] ![192, 4096] inb_S192x4096_S192x4096_0_0))
        (View.ld x2 (Rect.unit ![0, 0, 0] ![1, 2048, 256] inb_S1x2048x3072_S1x2048x256_0_0_0)) (View.ld x3 (Rect.unit ![0, 0, 0] ![1, 32, 256] inb_S1x32x3072_S1x32x256_0_0_0))
        (View.ld x2 (Rect.unit ![0, 0, 1536] ![1, 2048, 256] inb_S1x2048x3072_S1x2048x256_0_0_1536)) (View.ld x3 (Rect.unit ![0, 0, 1536] ![1, 32, 256] inb_S1x32x3072_S1x32x256_0_0_1536))⟩]

/-- The hidden layer of a grid point. -/
def hidden (x0 : Vec F S192x4096 .bf16) (x2 : Vec F S1x2048x3072 .i8) (x3 : Vec F S1x32x3072 .f32) : Vec F S192x1536 .bf16 :=
  View.canon (hidPieces x0 x2 x3)

/-- The eight tiles the accumulator is stored in, last first. -/
def accPieces (hid : Vec F S192x1536 .bf16) (w : Vec F S1x192x128 .f32) (x4 : Vec F S1x768x4096 .i8) (x5 : Vec F S1x12x4096 .f32)
    (a : Vec F S192x4096 .f32) : List (View.Piece (Elt F) S192x4096 .f32) :=
  [⟨Rect.unit ![0, 3584] ![192, 512] inb_S192x4096_S192x512_0_3584,
      outTile hid w
        (View.ld x4 (Rect.unit ![0, 0, 3584] ![1, 768, 512] inb_S1x768x4096_S1x768x512_0_0_3584))
        (View.ld x5 (Rect.unit ![0, 0, 3584] ![1, 12, 512] inb_S1x12x4096_S1x12x512_0_0_3584))
        (View.ld a (Rect.unit ![0, 3584] ![192, 512] inb_S192x4096_S192x512_0_3584))⟩,
    ⟨Rect.unit ![0, 3072] ![192, 512] inb_S192x4096_S192x512_0_3072,
      outTile hid w
        (View.ld x4 (Rect.unit ![0, 0, 3072] ![1, 768, 512] inb_S1x768x4096_S1x768x512_0_0_3072))
        (View.ld x5 (Rect.unit ![0, 0, 3072] ![1, 12, 512] inb_S1x12x4096_S1x12x512_0_0_3072))
        (View.ld a (Rect.unit ![0, 3072] ![192, 512] inb_S192x4096_S192x512_0_3072))⟩,
    ⟨Rect.unit ![0, 2560] ![192, 512] inb_S192x4096_S192x512_0_2560,
      outTile hid w
        (View.ld x4 (Rect.unit ![0, 0, 2560] ![1, 768, 512] inb_S1x768x4096_S1x768x512_0_0_2560))
        (View.ld x5 (Rect.unit ![0, 0, 2560] ![1, 12, 512] inb_S1x12x4096_S1x12x512_0_0_2560))
        (View.ld a (Rect.unit ![0, 2560] ![192, 512] inb_S192x4096_S192x512_0_2560))⟩,
    ⟨Rect.unit ![0, 2048] ![192, 512] inb_S192x4096_S192x512_0_2048,
      outTile hid w
        (View.ld x4 (Rect.unit ![0, 0, 2048] ![1, 768, 512] inb_S1x768x4096_S1x768x512_0_0_2048))
        (View.ld x5 (Rect.unit ![0, 0, 2048] ![1, 12, 512] inb_S1x12x4096_S1x12x512_0_0_2048))
        (View.ld a (Rect.unit ![0, 2048] ![192, 512] inb_S192x4096_S192x512_0_2048))⟩,
    ⟨Rect.unit ![0, 1536] ![192, 512] inb_S192x4096_S192x512_0_1536,
      outTile hid w
        (View.ld x4 (Rect.unit ![0, 0, 1536] ![1, 768, 512] inb_S1x768x4096_S1x768x512_0_0_1536))
        (View.ld x5 (Rect.unit ![0, 0, 1536] ![1, 12, 512] inb_S1x12x4096_S1x12x512_0_0_1536))
        (View.ld a (Rect.unit ![0, 1536] ![192, 512] inb_S192x4096_S192x512_0_1536))⟩,
    ⟨Rect.unit ![0, 1024] ![192, 512] inb_S192x4096_S192x512_0_1024,
      outTile hid w
        (View.ld x4 (Rect.unit ![0, 0, 1024] ![1, 768, 512] inb_S1x768x4096_S1x768x512_0_0_1024))
        (View.ld x5 (Rect.unit ![0, 0, 1024] ![1, 12, 512] inb_S1x12x4096_S1x12x512_0_0_1024))
        (View.ld a (Rect.unit ![0, 1024] ![192, 512] inb_S192x4096_S192x512_0_1024))⟩,
    ⟨Rect.unit ![0, 512] ![192, 512] inb_S192x4096_S192x512_0_512,
      outTile hid w
        (View.ld x4 (Rect.unit ![0, 0, 512] ![1, 768, 512] inb_S1x768x4096_S1x768x512_0_0_512))
        (View.ld x5 (Rect.unit ![0, 0, 512] ![1, 12, 512] inb_S1x12x4096_S1x12x512_0_0_512))
        (View.ld a (Rect.unit ![0, 512] ![192, 512] inb_S192x4096_S192x512_0_512))⟩,
    ⟨Rect.unit ![0, 0] ![192, 512] inb_S192x4096_S192x512_0_0,
      outTile hid w
        (View.ld x4 (Rect.unit ![0, 0, 0] ![1, 768, 512] inb_S1x768x4096_S1x768x512_0_0_0))
        (View.ld x5 (Rect.unit ![0, 0, 0] ![1, 12, 512] inb_S1x12x4096_S1x12x512_0_0_0))
        (View.ld a (Rect.unit ![0, 0] ![192, 512] inb_S192x4096_S192x512_0_0))⟩]

/-- Reading the whole hidden layer back from its six stores. -/
theorem readCov_hidPieces (v : View sig .tc .vmem S192x1536 .bf16) (x0 : Vec F S192x4096 .bf16) (x2 : Vec F S1x2048x3072 .i8) (x3 : Vec F S1x32x3072 .f32) :
    v.readCov (hidPieces x0 x2 x3) (Rect.unit ![0, 0] ![192, 1536] inb_S192x1536_S192x1536_0_0).toLoadRect = hidden x0 x2 x3 := by
  rw [View.readCov_eq_canon']
  exact View.ld_unit_zero (by funext a; fin_cases a <;> rfl) inb_S192x1536_S192x1536_0_0 (View.canon (hidPieces x0 x2 x3))

end Cert.KernelIdeal.Gen

end
-- ==== Proof.Points.lean ====
/- What one grid point leaves in the accumulator and in the output, at the points after the first. -/
module

public import proofs.«01_k».proof.Proof.Tiles

@[expose] public section

set_option maxRecDepth 16384

noncomputable section

namespace Cert.KernelIdeal.Gen

open Idealize.ShloMosaic Idealize.ShloMosaic.TcCoe Idealize.SL Idealize.SL.Sem

variable {F : FTy → Type} [FloatOps F]

/-- Where the grid point's expert stands in the table of routing weights. -/
def expertOff (i : grid0.Coords) : Fin 3 → Nat := ![BitVec.toNat (Scalar.indexCast (BitVec.ofNat 32 ↑(i 0))), 0, 0]

/-- The expert's offset is the grid coordinate. -/
theorem expertOff_zero (i : grid0.Coords) : BitVec.toNat (Scalar.indexCast (BitVec.ofNat 32 ↑(i 0))) = (i 0).val := by
  have h : ∀ v : Fin 16, BitVec.toNat (Scalar.indexCast (BitVec.ofNat 32 v.val)) = v.val := by decide
  exact h (i 0)

/-- The expert's rows lie inside the table. -/
theorem expertOff_inb (i : grid0.Coords) : ∀ a, expertOff i a + (![1, 192, 128] : Fin 3 → Nat) a ≤ S16x192x128.size a := by
  intro a
  have h : (i 0).val < 16 := (i 0).isLt
  fin_cases a
  · show BitVec.toNat (Scalar.indexCast (BitVec.ofNat 32 ↑(i 0))) + 1 ≤ 16
    rw [expertOff_zero]; omega
  · show 0 + 192 ≤ 192; omega
  · show 0 + 128 ≤ 128; omega

/-- The grid point's expert's rows of the table of routing weights. -/
def expertRows (i : grid0.Coords) (comb : Vec F S16x192x128 .f32) : Vec F S1x192x128 .f32 :=
  View.ld comb (Rect.unit (expertOff i) ![1, 192, 128] (expertOff_inb i))

/-- What a grid point leaves in the accumulator, from the table of weights and what the accumulator held. -/
def accNext (i : grid0.Coords) (comb : Vec F S16x192x128 .f32) (a : Vec F S192x4096 .f32)
    (x0 : Vec F S192x4096 .bf16) (x2 : Vec F S1x2048x3072 .i8) (x3 : Vec F S1x32x3072 .f32) (x4 : Vec F S1x768x4096 .i8) (x5 : Vec F S1x12x4096 .f32) : Vec F S192x4096 .f32 :=
  View.canon (accPieces (hidden x0 x2 x3) (expertRows i comb) x4 x5 a)

/-- The stores of case B into the accumulator are the eight uniform tiles. -/
theorem pieces_B (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : ¬cond0_0 i) (hc1 : ¬cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) (xs0 : Vec F S16x192x128 .f32) (xs2 : Vec F S192x4096 .f32) :
    (kernelRun0_B c i arg1 harg1 arg2 harg2 arg3 harg3 arg4 harg4 arg5 harg5 arg6 harg6 arg7 harg7 arg8 harg8 arg9 harg9 arg10 harg10 hc0 hc1 x0 x1 x2 x3 x4 x5 xs0 xs2).2.2.1 = accPieces (hidden x0 x2 x3) (expertRows i xs0) x4 x5 xs2 := by
  unfold kernelRun0_B
  dsimp only
  sl_unfold_words
  simp only [View.readAt_eq_ld, harg1.read_unread, harg2.read_unread, harg3.read_unread, harg4.read_unread, harg5.read_unread, harg6.read_unread, harg8.read_unread, harg10.read_unread]
  rw [← readCov_hidPieces arg9.view x0 x2 x3]
  rfl

/-- Case B leaves the accumulator's next contents. -/
theorem sout_B (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : ¬cond0_0 i) (hc1 : ¬cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) (xs0 : Vec F S16x192x128 .f32) (xs2 : Vec F S192x4096 .f32) :
    sout0_B_2 c i arg1 harg1 arg2 harg2 arg3 harg3 arg4 harg4 arg5 harg5 arg6 harg6 arg7 harg7 arg8 harg8 arg9 harg9 arg10 harg10 hc0 hc1 x0 x1 x2 x3 x4 x5 xs0 xs2 = accNext i xs0 xs2 x0 x2 x3 x4 x5 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 x0 x1 x2 x3 x4 x5 xs0 xs2), pieces_B]
  rfl

/-- The stores of case C into the accumulator are the eight uniform tiles. -/
theorem pieces_C (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : ¬cond0_0 i) (hc1 : cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) (xs0 : Vec F S16x192x128 .f32) (xs2 : Vec F S192x4096 .f32) :
    (kernelRun0_C c i arg1 harg1 arg2 harg2 arg3 harg3 arg4 harg4 arg5 harg5 arg6 harg6 arg7 harg7 arg8 harg8 arg9 harg9 arg10 harg10 hc0 hc1 x0 x1 x2 x3 x4 x5 xs0 xs2).2.2.1 = accPieces (hidden x0 x2 x3) (expertRows i xs0) x4 x5 xs2 := by
  unfold kernelRun0_C
  dsimp only
  sl_unfold_words
  simp only [View.readAt_eq_ld, harg1.read_unread, harg2.read_unread, harg3.read_unread, harg4.read_unread, harg5.read_unread, harg6.read_unread, harg8.read_unread, harg10.read_unread]
  rw [← readCov_hidPieces arg9.view x0 x2 x3]
  rfl

/-- Case C leaves the accumulator's next contents. -/
theorem sout_C (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : ¬cond0_0 i) (hc1 : cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) (xs0 : Vec F S16x192x128 .f32) (xs2 : Vec F S192x4096 .f32) :
    sout0_C_2 c i arg1 harg1 arg2 harg2 arg3 harg3 arg4 harg4 arg5 harg5 arg6 harg6 arg7 harg7 arg8 harg8 arg9 harg9 arg10 harg10 hc0 hc1 x0 x1 x2 x3 x4 x5 xs0 xs2 = accNext i xs0 xs2 x0 x2 x3 x4 x5 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 hc0 hc1 x0 x1 x2 x3 x4 x5 xs0 xs2), pieces_C]
  rfl

/-- The whole of the accumulator. -/
abbrev wholeAcc : Rect S192x4096 := Rect.unit ![0, 0] ![192, 4096] inb_S192x4096_S192x4096_0_0

/-- The whole accumulator read back from its stores. -/
def readWhole (v : View sig .tc .vmem S192x4096 .f32) (L : List (View.Piece (Elt F) S192x4096 .f32)) : Vec F S192x4096 .f32 :=
  v.readCov L wholeAcc.toLoadRect

/-- One store over the whole accumulator's shape leaves what it stores. -/
theorem canon_wholeAcc {e : EltTy} (w : Vec F S192x4096 e) :
    View.canon [(⟨wholeAcc, w⟩ : View.Piece (Elt F) S192x4096 e)] = w :=
  View.canon_unit_zero (by funext a; fin_cases a <;> rfl) inb_S192x4096_S192x4096_0_0 w

/-- The whole accumulator read back is what its stores leave. -/
theorem readWhole_eq (v : View sig .tc .vmem S192x4096 .f32) (L : List (View.Piece (Elt F) S192x4096 .f32)) : readWhole v L = View.canon L := by
  unfold readWhole
  rw [View.readCov_eq_canon']
  exact View.ld_unit_zero (by funext a; fin_cases a <;> rfl) inb_S192x4096_S192x4096_0_0 (View.canon L)

/-- The store of case C into the output is the accumulator's next contents in the narrow format. -/
theorem outPieces_C (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : ¬cond0_0 i) (hc1 : cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) (xs0 : Vec F S16x192x128 .f32) (xs2 : Vec F S192x4096 .f32) :
    (kernelRun0_C c i arg1 harg1 arg2 harg2 arg3 harg3 arg4 harg4 arg5 harg5 arg6 harg6 arg7 harg7 arg8 harg8 arg9 harg9 arg10 harg10 hc0 hc1 x0 x1 x2 x3 x4 x5 xs0 xs2).1
      = [⟨Rect.unit ![0, 0] ![192, 4096] inb_S192x4096_S192x4096_0_0,
          k0_pay2 (readWhole arg10.view (accPieces (hidden x0 x2 x3) (expertRows i xs0) x4 x5 xs2))⟩] := by
  unfold kernelRun0_C
  dsimp only
  sl_unfold_words
  simp only [View.readAt_eq_ld, harg1.read_unread, harg2.read_unread, harg3.read_unread, harg4.read_unread, harg5.read_unread, harg6.read_unread, harg8.read_unread, harg10.read_unread]
  rw [← readCov_hidPieces arg9.view x0 x2 x3]
  rfl

/-- Case C leaves in the output the accumulator's next contents in the narrow format. -/
theorem out_C (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : ¬cond0_0 i) (hc1 : cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) (xs0 : Vec F S16x192x128 .f32) (xs2 : Vec F S192x4096 .f32) :
    out0_C_6 c i arg1 harg1 arg2 harg2 arg3 harg3 arg4 harg4 arg5 harg5 arg6 harg6 arg7 harg7 arg8 harg8 arg9 harg9 arg10 harg10 hc0 hc1 x0 x1 x2 x3 x4 x5 xs0 xs2 = k0_pay2 (accNext i xs0 xs2 x0 x2 x3 x4 x5) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs2), outPieces_C, readWhole_eq]
  exact canon_wholeAcc _

end Cert.KernelIdeal.Gen

end
-- ==== Proof.Comb.lean ====
/- The routing weights the first grid point stores, and what it leaves in the accumulator. -/
module

public import proofs.«01_k».proof.Proof.Points

public import Idealize.ShloMosaic.Lib.Pipeline.ReadBack
public import Idealize.ShloMosaic.Lib.Pipeline.ValueKit.Tiles

@[expose] public section

set_option maxRecDepth 16384

noncomputable section

namespace Cert.KernelIdeal.Gen

open Idealize.ShloMosaic Idealize.ShloMosaic.TcCoe Idealize.SL Idealize.SL.Sem

variable {F : FTy → Type} [FloatOps F]

/-- At (t, e): whether expert `k` stands ahead of expert `e` for token `t`, as a number. -/
def beats (l : FVec F S192x16 .f32) (k : Nat) (h : S192x16.Slices ![0, k] S192x1) : IVec S192x16 32 :=
  extui 32 (ori (cmpf .ogt (broadcastTo S192x16 (extractStridedSlice S192x1 ![0, k] l h) broadcasts_S192x1_S192x16) l)
    (andi (cmpf .oeq (broadcastTo S192x16 (extractStridedSlice S192x1 ![0, k] l h) broadcasts_S192x1_S192x16) l)
      (cmpi .sgt (iota .tc S192x16 32 [1] iota_S192x16_d1_w32) (broadcast S192x16 (BitVec.ofNat 32 k))))) natLt_1_32

/-- At (t, e): how many experts stand ahead of expert `e` for token `t`. -/
def counts (l : FVec F S192x16 .f32) : IVec S192x16 32 :=
  addi (addi (addi (addi (addi (addi (addi (addi (addi (addi (addi (addi (addi (addi (addi (addi (broadcast S192x16 0#32) (beats l 0 slices_S192x16_o0_0_S192x1)) (beats l 1 slices_S192x16_o0_1_S192x1)) (beats l 2 slices_S192x16_o0_2_S192x1)) (beats l 3 slices_S192x16_o0_3_S192x1)) (beats l 4 slices_S192x16_o0_4_S192x1)) (beats l 5 slices_S192x16_o0_5_S192x1)) (beats l 6 slices_S192x16_o0_6_S192x1)) (beats l 7 slices_S192x16_o0_7_S192x1)) (beats l 8 slices_S192x16_o0_8_S192x1)) (beats l 9 slices_S192x16_o0_9_S192x1)) (beats l 10 slices_S192x16_o0_10_S192x1)) (beats l 11 slices_S192x16_o0_11_S192x1)) (beats l 12 slices_S192x16_o0_12_S192x1)) (beats l 13 slices_S192x16_o0_13_S192x1)) (beats l 14 slices_S192x16_o0_14_S192x1)) (beats l 15 slices_S192x16_o0_15_S192x1)

/-- The exponentials of the experts chosen for each token, zero elsewhere. -/
def shares (l : FVec F S192x16 .f32) : FVec F S192x16 .f32 :=
  select (cmpi .slt (counts l) (broadcast S192x16 8#32))
    (exp (subf l (broadcastTo S192x16 (shapeCast S192x1 (multiReduction .maximumf [1] S192 l 0xFF800000#32 reduces_S192x16_S192 (.inl rfl) rfl) shapeCasts_S192_S192x1) broadcasts_S192x1_S192x16)))
    (broadcast S192x16 (Scalar.ofBits .f32 0x00000000#32))

/-- The routing weights: the chosen experts' exponentials over their sum. -/
def routing (l : FVec F S192x16 .f32) : FVec F S192x16 .f32 :=
  divf (shares l) (broadcastTo S192x16 (shapeCast S192x1 (multiReduction .add [1] S192 (shares l) 0x00000000#32 reduces_S192x16_S192 (.inl rfl) rfl) shapeCasts_S192_S192x1) broadcasts_S192x1_S192x16)

/-- One expert's routing weights, repeated along 128 lanes. -/
def combTile (p : FVec F S192x16 .f32) (k : Nat) (h : S192x16.Slices ![0, k] S192x1) : FVec F S1x192x128 .f32 :=
  shapeCast S1x192x128 (broadcastTo S192x128 (shapeCast S192x1 (extractStridedSlice S192x1 ![0, k] p h) shapeCasts_S192x1_S192x1) broadcasts_S192x1_S192x128) shapeCasts_S192x128_S1x192x128

/-- The sixteen stores into the table of routing weights. -/
def combPieces (p : FVec F S192x16 .f32) : List (View.Piece (Elt F) S16x192x128 .f32) :=
  [⟨Rect.unit ![15, 0, 0] ![1, 192, 128] inb_S16x192x128_S1x192x128_15_0_0, combTile p 15 slices_S192x16_o0_15_S192x1⟩,
    ⟨Rect.unit ![14, 0, 0] ![1, 192, 128] inb_S16x192x128_S1x192x128_14_0_0, combTile p 14 slices_S192x16_o0_14_S192x1⟩,
    ⟨Rect.unit ![13, 0, 0] ![1, 192, 128] inb_S16x192x128_S1x192x128_13_0_0, combTile p 13 slices_S192x16_o0_13_S192x1⟩,
    ⟨Rect.unit ![12, 0, 0] ![1, 192, 128] inb_S16x192x128_S1x192x128_12_0_0, combTile p 12 slices_S192x16_o0_12_S192x1⟩,
    ⟨Rect.unit ![11, 0, 0] ![1, 192, 128] inb_S16x192x128_S1x192x128_11_0_0, combTile p 11 slices_S192x16_o0_11_S192x1⟩,
    ⟨Rect.unit ![10, 0, 0] ![1, 192, 128] inb_S16x192x128_S1x192x128_10_0_0, combTile p 10 slices_S192x16_o0_10_S192x1⟩,
    ⟨Rect.unit ![9, 0, 0] ![1, 192, 128] inb_S16x192x128_S1x192x128_9_0_0, combTile p 9 slices_S192x16_o0_9_S192x1⟩,
    ⟨Rect.unit ![8, 0, 0] ![1, 192, 128] inb_S16x192x128_S1x192x128_8_0_0, combTile p 8 slices_S192x16_o0_8_S192x1⟩,
    ⟨Rect.unit ![7, 0, 0] ![1, 192, 128] inb_S16x192x128_S1x192x128_7_0_0, combTile p 7 slices_S192x16_o0_7_S192x1⟩,
    ⟨Rect.unit ![6, 0, 0] ![1, 192, 128] inb_S16x192x128_S1x192x128_6_0_0, combTile p 6 slices_S192x16_o0_6_S192x1⟩,
    ⟨Rect.unit ![5, 0, 0] ![1, 192, 128] inb_S16x192x128_S1x192x128_5_0_0, combTile p 5 slices_S192x16_o0_5_S192x1⟩,
    ⟨Rect.unit ![4, 0, 0] ![1, 192, 128] inb_S16x192x128_S1x192x128_4_0_0, combTile p 4 slices_S192x16_o0_4_S192x1⟩,
    ⟨Rect.unit ![3, 0, 0] ![1, 192, 128] inb_S16x192x128_S1x192x128_3_0_0, combTile p 3 slices_S192x16_o0_3_S192x1⟩,
    ⟨Rect.unit ![2, 0, 0] ![1, 192, 128] inb_S16x192x128_S1x192x128_2_0_0, combTile p 2 slices_S192x16_o0_2_S192x1⟩,
    ⟨Rect.unit ![1, 0, 0] ![1, 192, 128] inb_S16x192x128_S1x192x128_1_0_0, combTile p 1 slices_S192x16_o0_1_S192x1⟩,
    ⟨Rect.unit ![0, 0, 0] ![1, 192, 128] inb_S16x192x128_S1x192x128_0_0_0, combTile p 0 slices_S192x16_o0_0_S192x1⟩]

/-- The logits as the kernel computes them. -/
def logits (x0 : Vec F S192x4096 .bf16) (x1 : Vec F S4096x16 .f32) : FVec F S192x16 .f32 :=
  k0_pay3 (View.ld x0 (Rect.unit ![0, 0] ![192, 4096] inb_S192x4096_S192x4096_0_0)) (View.ld x1 (Rect.unit ![0, 0] ![4096, 16] inb_S4096x16_S4096x16_0_0))

/-- The table of routing weights the first grid point leaves. -/
def combTable (x0 : Vec F S192x4096 .bf16) (x1 : Vec F S4096x16 .f32) : Vec F S16x192x128 .f32 :=
  View.canon (combPieces (routing (logits x0 x1)))

/-- The kernel's counting and normalising is the uniform one. -/
theorem routing_bridge (y0 : Vec F S192x4096 .bf16) (y1 : Vec F S4096x16 .f32) :
    k0_pay10 (k0_pay3 y0 y1) (iota .tc S192x16 32 [1] iota_S192x16_d1_w32)
      (k0_pay8 (k0_pay3 y0 y1) (iota .tc S192x16 32 [1] iota_S192x16_d1_w32)
        (k0_pay6 (k0_pay3 y0 y1) (iota .tc S192x16 32 [1] iota_S192x16_d1_w32) (k0_pay4 y0 y1) (k0_pay5 y0 y1))
        (k0_pay7 (k0_pay3 y0 y1) (iota .tc S192x16 32 [1] iota_S192x16_d1_w32)))
      (k0_pay9 (k0_pay3 y0 y1) (iota .tc S192x16 32 [1] iota_S192x16_d1_w32))
    = routing (k0_pay3 y0 y1) := rfl

/-- The stores of the first grid point into the table of routing weights. -/
theorem combPieces_A (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : cond0_0 i) (hc1 : ¬cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) :
    (kernelRun0_A c i arg1 harg1 arg2 harg2 arg3 harg3 arg4 harg4 arg5 harg5 arg6 harg6 arg7 harg7 arg8 harg8 arg9 harg9 arg10 harg10 hc0 hc1 x0 x1 x2 x3 x4 x5).2.1 = combPieces (routing (logits x0 x1)) := by
  unfold kernelRun0_A
  dsimp only
  sl_unfold_words
  simp only [View.readAt_eq_ld, harg1.read_unread, harg2.read_unread, harg3.read_unread, harg4.read_unread, harg5.read_unread, harg6.read_unread, harg8.read_unread, harg10.read_unread]
  unfold logits
  rw [← routing_bridge]
  rfl

/-- The first grid point leaves the table of routing weights. -/
theorem soutComb_A (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : cond0_0 i) (hc1 : ¬cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) :
    sout0_A_0 c i arg1 harg1 arg2 harg2 arg3 harg3 arg4 harg4 arg5 harg5 arg6 harg6 arg7 harg7 arg8 harg8 arg9 harg9 arg10 harg10 hc0 hc1 x0 x1 x2 x3 x4 x5 = combTable x0 x1 := by
  unfold sout0_A_0
  refine (View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)).trans ?_
  rw [combPieces_A]
  rfl

/-- The expert's rows read back from the stores into the table of routing weights. -/
theorem readCov_combPieces (v : View sig .tc .vmem S16x192x128 .f32) (i : grid0.Coords) (L : List (View.Piece (Elt F) S16x192x128 .f32)) :
    v.readCov L (Rect.unit (expertOff i) ![1, 192, 128] (expertOff_inb i)).toLoadRect = expertRows i (View.canon L) := by
  rw [View.readCov_eq_canon']
  rfl

/-- The stores of the first grid point into the accumulator: the eight uniform tiles over the zero fill. -/
theorem accPieces_A (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : cond0_0 i) (hc1 : ¬cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) :
    (kernelRun0_A c i arg1 harg1 arg2 harg2 arg3 harg3 arg4 harg4 arg5 harg5 arg6 harg6 arg7 harg7 arg8 harg8 arg9 harg9 arg10 harg10 hc0 hc1 x0 x1 x2 x3 x4 x5).2.2.1
      = accPieces (hidden x0 x2 x3) (expertRows i (combTable x0 x1)) x4 x5 k0_pay30 ++ [⟨wholeAcc, k0_pay30⟩] := by
  unfold kernelRun0_A
  dsimp only
  sl_unfold_words
  simp only [View.readAt_eq_ld, harg1.read_unread, harg2.read_unread, harg3.read_unread, harg4.read_unread, harg5.read_unread, harg6.read_unread, harg8.read_unread, harg10.read_unread]
  simp (disch := decide) only [↓ View.readCov_skip, ↓ View.readCov_cons_toLoadRect, ↓ View.readCov_fill]
  unfold combTable
  rw [← readCov_hidPieces arg9.view x0 x2 x3, ← readCov_combPieces arg8.view]
  unfold logits
  rw [← routing_bridge]
  rfl

/-- Earlier stores do not show where the later ones cover. -/
theorem canon_append_apply {S : Shape} {e : EltTy} (M : List (View.Piece (Elt F) S e)) :
    ∀ (L : List (View.Piece (Elt F) S e)) (y : S.Idx), (∃ p ∈ L, y ∈ p.1.set) → View.canon (L ++ M) y = View.canon L y
  | [], y, h => by obtain ⟨_, hm, _⟩ := h; exact absurd hm List.not_mem_nil
  | p :: L, y, h => by
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem _ _ hm, View.canon_cons_of_not_mem _ _ hm]
      refine canon_append_apply M L y ?_
      obtain ⟨q, hq, hyq⟩ := h
      rcases List.mem_cons.mp hq with rfl | hq'
      · exact absurd hyq hm
      · exact ⟨q, hq', hyq⟩

/-- The eight accumulator tiles cover the accumulator. -/
theorem accPieces_cover (hid : Vec F S192x1536 .bf16) (w : Vec F S1x192x128 .f32) (x4 : Vec F S1x768x4096 .i8) (x5 : Vec F S1x12x4096 .f32)
    (a : Vec F S192x4096 .f32) (y : S192x4096.Idx) : ∃ p ∈ accPieces hid w x4 x5 a, y ∈ p.1.set := by
  unfold accPieces
  exact View.cover_of_tiled_head _ _ _ (by rfl) y

/-- The first grid point leaves the accumulator's first contents. -/
theorem sout_A (c : Dev nD) (i : grid0.Coords) (arg1 : Memref sig .tc .vmem S192x4096 .bf16) (harg1 : arg1.IsWhole) (arg2 : Memref sig .tc .vmem S4096x16 .f32) (harg2 : arg2.IsWhole) (arg3 : Memref sig .tc .vmem S1x2048x3072 .i8) (harg3 : arg3.IsWhole) (arg4 : Memref sig .tc .vmem S1x32x3072 .f32) (harg4 : arg4.IsWhole) (arg5 : Memref sig .tc .vmem S1x768x4096 .i8) (harg5 : arg5.IsWhole) (arg6 : Memref sig .tc .vmem S1x12x4096 .f32) (harg6 : arg6.IsWhole) (arg7 : Memref sig .tc .vmem S192x4096 .bf16) (harg7 : arg7.IsWhole) (arg8 : Memref sig .tc .vmem S16x192x128 .f32) (harg8 : arg8.IsWhole) (arg9 : Memref sig .tc .vmem S192x1536 .bf16) (harg9 : arg9.IsWhole) (arg10 : Memref sig .tc .vmem S192x4096 .f32) (harg10 : arg10.IsWhole) (hc0 : cond0_0 i) (hc1 : ¬cond0_1 i)
    (x0 : Vec F S192x4096 .bf16) (x1 : Vec F S4096x16 .f32) (x2 : Vec F S1x2048x3072 .i8) (x3 : Vec F S1x32x3072 .f32) (x4 : Vec F S1x768x4096 .i8) (x5 : Vec F S1x12x4096 .f32) :
    sout0_A_2 c i arg1 harg1 arg2 harg2 arg3 harg3 arg4 harg4 arg5 harg5 arg6 harg6 arg7 harg7 arg8 harg8 arg9 harg9 arg10 harg10 hc0 hc1 x0 x1 x2 x3 x4 x5 = accNext i (combTable x0 x1) k0_pay30 x0 x2 x3 x4 x5 := by
  unfold sout0_A_2
  refine (View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2 x3 x4 x5)).trans ?_
  rw [accPieces_A]
  funext y
  exact canon_append_apply _ _ y (accPieces_cover _ _ _ _ _ y)

end Cert.KernelIdeal.Gen

end
-- ==== Proof.AtIndex.lean ====
/- The kernel's tiles, its hidden layer and its accumulator at an index, over the extended reals. -/
module

public import proofs.«01_k».proof.Proof.Comb
public import proofs.«01_k».proof.Proof.Spec

@[expose] public section

set_option maxRecDepth 16384

noncomputable section

namespace Cert.KernelIdeal.Gen

open Idealize.ShloMosaic Idealize.ShloMosaic.TcCoe Idealize.SL Idealize.SL.Sem

/-- A signed integer as an extended real. -/
theorem sitofp_ideal {w : Nat} (φ : FTy) (b : BitVec w) : FloatOps.sitofp (F := Ideal) φ b = (((b.toInt : ℤ) : ℝ) : EReal) := rfl

/-- A gate or up weight at row `d`: nibble `d % 2` of byte row `d / 2` times the scale of block `d / 128`. -/
theorem inWeights_apply (q : Vec Ideal S1x2048x256 .i8) (s : Vec Ideal S1x32x256 .f32) (d : Fin 4096) (f : Fin 256) :
    inWeights (F := Ideal) q s (ix2 d f)
      = Spec.deq (q (ix3 0 ⟨d.val / 2, by omega⟩ f)) (d.val % 2) (s (ix3 0 ⟨d.val / 128, by omega⟩ f)) := by
  pointwise [inWeights]
  unfold Spec.deq
  congr 1
  rw [sitofp_ideal]
  split
  · next h => exact congrArg (fun z : ℤ => ((z : ℝ) : EReal)) (Spec.code_low' _ (show d.val % 2 = 0 by omega))
  · next h => exact congrArg (fun z : ℤ => ((z : ℝ) : EReal)) (Spec.code_high' _ (show d.val % 2 = 1 by omega))

/-- A down weight at row `d`. -/
theorem outWeights_apply (q : Vec Ideal S1x768x512 .i8) (s : Vec Ideal S1x12x512 .f32) (d : Fin 1536) (f : Fin 512) :
    outWeights (F := Ideal) q s (ix2 d f)
      = Spec.deq (q (ix3 0 ⟨d.val / 2, by omega⟩ f)) (d.val % 2) (s (ix3 0 ⟨d.val / 128, by omega⟩ f)) := by
  pointwise [outWeights]
  unfold Spec.deq
  congr 1
  rw [sitofp_ideal]
  split
  · next h => exact congrArg (fun z : ℤ => ((z : ℝ) : EReal)) (Spec.code_low' _ (show d.val % 2 = 0 by omega))
  · next h => exact congrArg (fun z : ℤ => ((z : ℝ) : EReal)) (Spec.code_high' _ (show d.val % 2 = 1 by omega))

/-- Select by a comparison's bit is a conditional. -/
theorem select_ofBool {α : Type} (p : Prop) [Decidable p] (a b : α) : Scalar.select (BitVec.ofBool (decide p)) a b = if p then a else b := by
  by_cases h : p <;> simp [Scalar.select, h]

/-- An accumulator tile at an index. -/
theorem outTile_apply (hid : Vec Ideal S192x1536 .bf16) (w : Vec Ideal S1x192x128 .f32) (q : Vec Ideal S1x768x512 .i8) (s : Vec Ideal S1x12x512 .f32)
    (a : Vec Ideal S192x512 .f32) (t : Fin 192) (f : Fin 512) :
    outTile (F := Ideal) hid w q s a (ix2 t f)
      = a (ix2 t f) + if 0 < w (ix3 0 t ⟨f.val % 128, by omega⟩) then
          (∑ k : Fin 1536, hid (ix2 t k) * Spec.deq (q (ix3 0 ⟨k.val / 2, by omega⟩ f)) (k.val % 2) (s (ix3 0 ⟨k.val / 128, by omega⟩ f)))
            * w (ix3 0 t ⟨f.val % 128, by omega⟩) else 0 := by
  pointwise [outTile, k0_pay59, k0_pay60]
  simp only [outWeights_apply]
  congr 1
  have hf := f.isLt
  split
  · next h =>
    have e : (⟨f.val % 128, by omega⟩ : Fin 128) = ⟨f.val, h⟩ := Fin.ext (by show f.val % 128 = f.val; omega)
    rw [e, select_ofBool]
  · next h =>
    split
    · next h' =>
      have e : (⟨f.val % 128, by omega⟩ : Fin 128) = ⟨f.val - 128, h'⟩ := Fin.ext (by show f.val % 128 = f.val - 128; omega)
      rw [e, select_ofBool]
    · next h' =>
      split
      · next h'' =>
        have e : (⟨f.val % 128, by omega⟩ : Fin 128) = ⟨f.val - 128 - 128, h''⟩ := Fin.ext (by show f.val % 128 = f.val - 128 - 128; omega)
        rw [e, select_ofBool]
      · next h'' =>
        have e : (⟨f.val % 128, by omega⟩ : Fin 128) = ⟨f.val - 128 - 128 - 128, by omega⟩ := Fin.ext (by show f.val % 128 = f.val - 128 - 128 - 128; omega)
        rw [e, select_ofBool]

/-- A hidden tile at an index. -/
theorem hidTile_apply (x : Vec Ideal S192x4096 .bf16) (gq : Vec Ideal S1x2048x256 .i8) (gs : Vec Ideal S1x32x256 .f32)
    (uq : Vec Ideal S1x2048x256 .i8) (us : Vec Ideal S1x32x256 .f32) (t : Fin 192) (f : Fin 256) :
    hidTile (F := Ideal) x gq gs uq us (ix2 t f)
      = (∑ d : Fin 4096, x (ix2 t d) * Spec.deq (gq (ix3 0 ⟨d.val / 2, by omega⟩ f)) (d.val % 2) (gs (ix3 0 ⟨d.val / 128, by omega⟩ f)))
        * Ideal.logistic (∑ d : Fin 4096, x (ix2 t d) * Spec.deq (gq (ix3 0 ⟨d.val / 2, by omega⟩ f)) (d.val % 2) (gs (ix3 0 ⟨d.val / 128, by omega⟩ f)))
        * ∑ d : Fin 4096, x (ix2 t d) * Spec.deq (uq (ix3 0 ⟨d.val / 2, by omega⟩ f)) (d.val % 2) (us (ix3 0 ⟨d.val / 128, by omega⟩ f)) := by
  pointwise [hidTile, inProduct, k0_pay31]
  simp only [inWeights_apply]

/-- One expert's gate and up matrix from its block of codes and its block of scales. -/
abbrev guOf (x2 : Vec Ideal S1x2048x3072 .i8) (x3 : Vec Ideal S1x32x3072 .f32) : Fin 4096 → Fin 3072 → EReal :=
  Spec.matrix (fun r f => x2 (ix3 0 r f)) (fun r f => x3 (ix3 0 r f)) (r := 4096) rfl rfl

/-- One expert's down matrix from its block of codes and its block of scales. -/
abbrev dnOf (x4 : Vec Ideal S1x768x4096 .i8) (x5 : Vec Ideal S1x12x4096 .f32) : Fin 1536 → Fin 4096 → EReal :=
  Spec.matrix (fun r f => x4 (ix3 0 r f)) (fun r f => x5 (ix3 0 r f)) (r := 1536) rfl rfl

/-- A rank-3 block of the first two whole axes and a range of the third, at an index. -/
theorem ld3_apply {e : EltTy} {m n k : Nat} (X : Vec Ideal ⟨3, ![1, m, n]⟩ e) (o : Nat)
    (inb : ∀ a, (![0, 0, o] : Fin 3 → Nat) a + (![1, m, k] : Fin 3 → Nat) a ≤ (⟨3, ![1, m, n]⟩ : Shape).size a)
    (r : Fin m) (f : Fin k) (g : Fin n) (h : g.val = o + f.val) :
    View.ld X (Rect.unit (s := ⟨3, ![1, m, n]⟩) ![0, 0, o] ![1, m, k] inb) (ix3 0 r f) = X (ix3 0 r g) := by
  refine View.ld_unit_apply_of X _ _ inb (ix3 0 r f) (ix3 0 r g) ?_
  intro a
  match a with
  | ⟨0, _⟩ => rfl
  | ⟨1, _⟩ => show r.val = 0 + r.val; omega
  | ⟨2, _⟩ => exact h

/-- A rank-2 block of the first whole axis and a range of the second, at an index. -/
theorem ld2_apply {e : EltTy} {m n k : Nat} (X : Vec Ideal ⟨2, ![m, n]⟩ e) (o : Nat)
    (inb : ∀ a, (![0, o] : Fin 2 → Nat) a + (![m, k] : Fin 2 → Nat) a ≤ (⟨2, ![m, n]⟩ : Shape).size a)
    (r : Fin m) (f : Fin k) (g : Fin n) (h : g.val = o + f.val) :
    View.ld X (Rect.unit (s := ⟨2, ![m, n]⟩) ![0, o] ![m, k] inb) (ix2 r f) = X (ix2 r g) := by
  refine View.ld_unit_apply_of X _ _ inb (ix2 r f) (ix2 r g) ?_
  intro a
  match a with
  | ⟨0, _⟩ => show r.val = 0 + r.val; omega
  | ⟨1, _⟩ => exact h

/-- The hidden tile at column offset `o` holds the hidden layer where it stands. -/
theorem hidTile_at (x0 : Vec Ideal S192x4096 .bf16) (x2 : Vec Ideal S1x2048x3072 .i8) (x3 : Vec Ideal S1x32x3072 .f32) (o : Nat)
    (hx : ∀ a, (![0, 0] : Fin 2 → Nat) a + (![192, 4096] : Fin 2 → Nat) a ≤ S192x4096.size a)
    (hgq : ∀ a, (![0, 0, o] : Fin 3 → Nat) a + (![1, 2048, 256] : Fin 3 → Nat) a ≤ S1x2048x3072.size a)
    (hgs : ∀ a, (![0, 0, o] : Fin 3 → Nat) a + (![1, 32, 256] : Fin 3 → Nat) a ≤ S1x32x3072.size a)
    (huq : ∀ a, (![0, 0, 1536 + o] : Fin 3 → Nat) a + (![1, 2048, 256] : Fin 3 → Nat) a ≤ S1x2048x3072.size a)
    (hus : ∀ a, (![0, 0, 1536 + o] : Fin 3 → Nat) a + (![1, 32, 256] : Fin 3 → Nat) a ≤ S1x32x3072.size a)
    (t : Fin 192) (f : Fin 1536) :
    View.TileAt (Val := Elt Ideal) (S := S192x1536) (e := .bf16) (ix2 t f) ![0, o] ![192, 256]
      (hidTile (F := Ideal) (View.ld x0 (Rect.unit ![0, 0] ![192, 4096] hx))
        (View.ld x2 (Rect.unit ![0, 0, o] ![1, 2048, 256] hgq)) (View.ld x3 (Rect.unit ![0, 0, o] ![1, 32, 256] hgs))
        (View.ld x2 (Rect.unit ![0, 0, 1536 + o] ![1, 2048, 256] huq)) (View.ld x3 (Rect.unit ![0, 0, 1536 + o] ![1, 32, 256] hus)))
      (Spec.hid (fun d => x0 (ix2 t d)) (guOf x2 x3) f) := by
  intro y hy
  have h0 : t.val = 0 + (y 0).val := hy 0
  have h1 : f.val = o + (y 1).val := hy 1
  obtain ⟨t', f', rfl⟩ : ∃ (t' : Fin 192) (f' : Fin 256), y = ix2 t' f' := ⟨y 0, y 1, eq_ix2 y⟩
  have ht : t = t' := Fin.ext (by simpa using h0)
  subst ht
  have hf : f.val = o + f'.val := h1
  rw [hidTile_apply]
  have ex : ∀ d : Fin 4096, View.ld x0 (Rect.unit ![0, 0] ![192, 4096] hx) (ix2 t d) = x0 (ix2 t d) := fun d =>
    ld2_apply x0 0 hx t d d (by omega)
  have egq : ∀ r : Fin 2048, View.ld x2 (Rect.unit ![0, 0, o] ![1, 2048, 256] hgq) (ix3 0 r f') = x2 (ix3 0 r ⟨f.val, by omega⟩) := fun r =>
    ld3_apply x2 o hgq r f' _ hf
  have egs : ∀ r : Fin 32, View.ld x3 (Rect.unit ![0, 0, o] ![1, 32, 256] hgs) (ix3 0 r f') = x3 (ix3 0 r ⟨f.val, by omega⟩) := fun r =>
    ld3_apply x3 o hgs r f' _ hf
  have euq : ∀ r : Fin 2048, View.ld x2 (Rect.unit ![0, 0, 1536 + o] ![1, 2048, 256] huq) (ix3 0 r f') = x2 (ix3 0 r ⟨1536 + f.val, by omega⟩) := fun r =>
    ld3_apply x2 (1536 + o) huq r f' _ (by show 1536 + f.val = _; omega)
  have eus : ∀ r : Fin 32, View.ld x3 (Rect.unit ![0, 0, 1536 + o] ![1, 32, 256] hus) (ix3 0 r f') = x3 (ix3 0 r ⟨1536 + f.val, by omega⟩) := fun r =>
    ld3_apply x3 (1536 + o) hus r f' _ (by show 1536 + f.val = _; omega)
  simp only [ex, egq, egs, euq, eus]
  rfl

/-- The hidden layer at an index. -/
theorem hidden_apply (x0 : Vec Ideal S192x4096 .bf16) (x2 : Vec Ideal S1x2048x3072 .i8) (x3 : Vec Ideal S1x32x3072 .f32) (t : Fin 192) (f : Fin 1536) :
    hidden (F := Ideal) x0 x2 x3 (ix2 t f) = Spec.hid (fun d => x0 (ix2 t d)) (guOf x2 x3) f := by
  unfold hidden hidPieces
  refine View.canon_eq_of_allAt _ _ _ (View.cover_of_tiled_head _ _ _ (by rfl) _) ?_
  refine View.allAt_cons_unit _ _ _ _ _ (hidTile_at x0 x2 x3 1280 _ _ _ _ _ t f) ?_
  refine View.allAt_cons_unit _ _ _ _ _ (hidTile_at x0 x2 x3 1024 _ _ _ _ _ t f) ?_
  refine View.allAt_cons_unit _ _ _ _ _ (hidTile_at x0 x2 x3 768 _ _ _ _ _ t f) ?_
  refine View.allAt_cons_unit _ _ _ _ _ (hidTile_at x0 x2 x3 512 _ _ _ _ _ t f) ?_
  refine View.allAt_cons_unit _ _ _ _ _ (hidTile_at x0 x2 x3 256 _ _ _ _ _ t f) ?_
  refine View.allAt_cons_unit _ _ _ _ _ (hidTile_at x0 x2 x3 0 _ _ _ _ _ t f) ?_
  exact View.allAt_nil _ _

/-- The accumulator tile at column offset `o` holds the accumulator's next contents where it stands. -/
theorem outTile_at (hid : Vec Ideal S192x1536 .bf16) (w : Vec Ideal S1x192x128 .f32) (x4 : Vec Ideal S1x768x4096 .i8) (x5 : Vec Ideal S1x12x4096 .f32)
    (a : Vec Ideal S192x4096 .f32) (o : Nat) (ho : o % 128 = 0)
    (hq : ∀ a, (![0, 0, o] : Fin 3 → Nat) a + (![1, 768, 512] : Fin 3 → Nat) a ≤ S1x768x4096.size a)
    (hs : ∀ a, (![0, 0, o] : Fin 3 → Nat) a + (![1, 12, 512] : Fin 3 → Nat) a ≤ S1x12x4096.size a)
    (ha : ∀ a, (![0, o] : Fin 2 → Nat) a + (![192, 512] : Fin 2 → Nat) a ≤ S192x4096.size a)
    (t : Fin 192) (c : Fin 4096) :
    View.TileAt (Val := Elt Ideal) (S := S192x4096) (e := .f32) (ix2 t c) ![0, o] ![192, 512]
      (outTile (F := Ideal) hid w (View.ld x4 (Rect.unit ![0, 0, o] ![1, 768, 512] hq)) (View.ld x5 (Rect.unit ![0, 0, o] ![1, 12, 512] hs))
        (View.ld a (Rect.unit ![0, o] ![192, 512] ha)))
      (a (ix2 t c) + if 0 < w (ix3 0 t ⟨c.val % 128, by omega⟩) then
          (∑ k : Fin 1536, hid (ix2 t k) * dnOf x4 x5 k c) * w (ix3 0 t ⟨c.val % 128, by omega⟩) else 0) := by
  intro y hy
  have h0 : t.val = 0 + (y 0).val := hy 0
  have h1 : c.val = o + (y 1).val := hy 1
  obtain ⟨t', c', rfl⟩ : ∃ (t' : Fin 192) (c' : Fin 512), y = ix2 t' c' := ⟨y 0, y 1, eq_ix2 y⟩
  have ht : t = t' := Fin.ext (by simpa using h0)
  subst ht
  have hc : c.val = o + c'.val := h1
  rw [outTile_apply]
  have ea : View.ld a (Rect.unit ![0, o] ![192, 512] ha) (ix2 t c') = a (ix2 t c) := ld2_apply a o ha t c' c hc
  have eq : ∀ r : Fin 768, View.ld x4 (Rect.unit ![0, 0, o] ![1, 768, 512] hq) (ix3 0 r c') = x4 (ix3 0 r c) := fun r =>
    ld3_apply x4 o hq r c' c hc
  have es : ∀ r : Fin 12, View.ld x5 (Rect.unit ![0, 0, o] ![1, 12, 512] hs) (ix3 0 r c') = x5 (ix3 0 r c) := fun r =>
    ld3_apply x5 o hs r c' c hc
  have el : (⟨c'.val % 128, by omega⟩ : Fin 128) = ⟨c.val % 128, by omega⟩ := Fin.ext (by show c'.val % 128 = c.val % 128; omega)
  simp only [ea, eq, es, el]
  rfl

/-- The eight accumulator tiles at an index. -/
theorem accPieces_apply (hid : Vec Ideal S192x1536 .bf16) (w : Vec Ideal S1x192x128 .f32) (x4 : Vec Ideal S1x768x4096 .i8) (x5 : Vec Ideal S1x12x4096 .f32)
    (a : Vec Ideal S192x4096 .f32) (t : Fin 192) (c : Fin 4096) :
    View.canon (accPieces (F := Ideal) hid w x4 x5 a) (ix2 t c)
      = a (ix2 t c) + if 0 < w (ix3 0 t ⟨c.val % 128, by omega⟩) then
          (∑ k : Fin 1536, hid (ix2 t k) * dnOf x4 x5 k c) * w (ix3 0 t ⟨c.val % 128, by omega⟩) else 0 := by
  refine View.canon_eq_of_allAt _ _ _ (accPieces_cover _ _ _ _ _ _) ?_
  unfold accPieces
  refine View.allAt_cons_unit _ _ _ _ _ (outTile_at hid w x4 x5 a 3584 (by decide) _ _ _ t c) ?_
  refine View.allAt_cons_unit _ _ _ _ _ (outTile_at hid w x4 x5 a 3072 (by decide) _ _ _ t c) ?_
  refine View.allAt_cons_unit _ _ _ _ _ (outTile_at hid w x4 x5 a 2560 (by decide) _ _ _ t c) ?_
  refine View.allAt_cons_unit _ _ _ _ _ (outTile_at hid w x4 x5 a 2048 (by decide) _ _ _ t c) ?_
  refine View.allAt_cons_unit _ _ _ _ _ (outTile_at hid w x4 x5 a 1536 (by decide) _ _ _ t c) ?_
  refine View.allAt_cons_unit _ _ _ _ _ (outTile_at hid w x4 x5 a 1024 (by decide) _ _ _ t c) ?_
  refine View.allAt_cons_unit _ _ _ _ _ (outTile_at hid w x4 x5 a 512 (by decide) _ _ _ t c) ?_
  refine View.allAt_cons_unit _ _ _ _ _ (outTile_at hid w x4 x5 a 0 (by decide) _ _ _ t c) ?_
  exact View.allAt_nil _ _

/-- The expert's row of the table at an index. -/
theorem expertRows_apply (i : grid0.Coords) (comb : Vec Ideal S16x192x128 .f32) (t : Fin 192) (n : Fin 128) :
    expertRows (F := Ideal) i comb (ix3 0 t n) = comb (ix3 ⟨(i 0).val, (i 0).isLt⟩ t n) := by
  unfold expertRows
  refine View.ld_unit_apply_of comb _ _ (expertOff_inb i) (ix3 0 t n) (ix3 ⟨(i 0).val, (i 0).isLt⟩ t n) ?_
  intro a
  match a with
  | ⟨0, _⟩ => exact (expertOff_zero i).symm
  | ⟨1, _⟩ => show t.val = 0 + t.val; omega
  | ⟨2, _⟩ => show n.val = 0 + n.val; omega

/-- What a grid point leaves in the accumulator, at an index: what it held plus, where the expert's weight is positive, the
    expert's output times the weight. -/
theorem accNext_apply (i : grid0.Coords) (comb : Vec Ideal S16x192x128 .f32) (a : Vec Ideal S192x4096 .f32)
    (x0 : Vec Ideal S192x4096 .bf16) (x2 : Vec Ideal S1x2048x3072 .i8) (x3 : Vec Ideal S1x32x3072 .f32) (x4 : Vec Ideal S1x768x4096 .i8) (x5 : Vec Ideal S1x12x4096 .f32)
    (t : Fin 192) (c : Fin 4096) :
    accNext (F := Ideal) i comb a x0 x2 x3 x4 x5 (ix2 t c)
      = a (ix2 t c) + if 0 < comb (ix3 ⟨(i 0).val, (i 0).isLt⟩ t ⟨c.val % 128, by omega⟩) then
          Spec.ffn (fun d => x0 (ix2 t d)) (guOf x2 x3) (dnOf x4 x5) c * comb (ix3 ⟨(i 0).val, (i 0).isLt⟩ t ⟨c.val % 128, by omega⟩) else 0 := by
  unfold accNext
  rw [accPieces_apply]
  simp only [expertRows_apply, hidden_apply]
  rfl

end Cert.KernelIdeal.Gen

end
-- ==== Proof.CombIndex.lean ====
/- The routing weights at an index, over the extended reals. -/
module

public import proofs.«01_k».proof.Proof.AtIndex
public import proofs.«01_k».proof.Proof.Ranking

@[expose] public section

set_option maxRecDepth 16384

noncomputable section

namespace Cert.KernelIdeal.Gen

open Idealize.ShloMosaic Idealize.ShloMosaic.TcCoe Idealize.SL Idealize.SL.Sem

/-- The logits at an index. -/
theorem logits_apply (x0 : Vec Ideal S192x4096 .bf16) (x1 : Vec Ideal S4096x16 .f32) (t : Fin 192) (e : Fin 16) :
    logits (F := Ideal) x0 x1 (ix2 t e) = ∑ d : Fin 4096, x0 (ix2 t d) * x1 (ix2 d e) := by
  unfold logits
  have e0 : ∀ d : Fin 4096, View.ld x0 (Rect.unit ![0, 0] ![192, 4096] inb_S192x4096_S192x4096_0_0) (ix2 t d) = x0 (ix2 t d) := fun d =>
    ld2_apply x0 0 inb_S192x4096_S192x4096_0_0 t d d (by omega)
  have e1 : ∀ d : Fin 4096, View.ld x1 (Rect.unit ![0, 0] ![4096, 16] inb_S4096x16_S4096x16_0_0) (ix2 d e) = x1 (ix2 d e) := fun d =>
    ld2_apply x1 0 inb_S4096x16_S4096x16_0_0 d e e (by omega)
  generalize View.ld x0 (Rect.unit ![0, 0] ![192, 4096] inb_S192x4096_S192x4096_0_0) = y0 at e0
  generalize View.ld x1 (Rect.unit ![0, 0] ![4096, 16] inb_S4096x16_S4096x16_0_0) = y1 at e1
  pointwise [k0_pay3]
  exact Finset.sum_congr rfl fun d _ => by rw [e0, e1]

/-- One token's row of a table of logits. -/
abbrev row (l : FVec Ideal S192x16 .f32) (t : Fin 192) : Fin 16 → EReal := fun a => l (ix2 t a)

open Classical in
/-- Whether one expert stands ahead of another, as a number. -/
theorem beats_apply (l : FVec Ideal S192x16 .f32) (k : Nat) (hk : k < 16) (h : S192x16.Slices ![0, k] S192x1) (t : Fin 192) (e : Fin 16) :
    beats (F := Ideal) l k h (ix2 t e) = BitVec.ofNat 32 (if Ranking.Ahead (row l t) ⟨k, hk⟩ e then 1 else 0) := by
  pointwise [beats]
  have hc : ∀ a b : Fin 16, IntOp.cmpi CmpIPredicate.sgt (BitVec.ofNat 32 a.val) (BitVec.ofNat 32 b.val) = BitVec.ofBool (decide (b < a)) := by decide
  rw [hc e ⟨k, hk⟩]
  by_cases h1 : l (ix2 t e) < l (ix2 t ⟨k, hk⟩)
  · rw [if_pos (show Ranking.Ahead (row l t) ⟨k, hk⟩ e from Or.inl h1)]
    simp only [h1, decide_true]
    generalize IntOp.andi _ _ = z
    revert z
    decide
  · by_cases h2 : l (ix2 t ⟨k, hk⟩) = l (ix2 t e)
    · by_cases h3 : (⟨k, hk⟩ : Fin 16) < e
      · rw [if_pos (show Ranking.Ahead (row l t) ⟨k, hk⟩ e from Or.inr ⟨h2, h3⟩)]
        simp only [h2, h3, decide_true, decide_false, lt_irrefl]
        decide
      · rw [if_neg (show ¬ Ranking.Ahead (row l t) ⟨k, hk⟩ e from by rintro (h | ⟨-, h⟩); exacts [h1 h, h3 h])]
        simp only [h2, h3, decide_true, decide_false, lt_irrefl]
        decide
    · rw [if_neg (show ¬ Ranking.Ahead (row l t) ⟨k, hk⟩ e from by rintro (h | ⟨h, -⟩); exacts [h1 h, h2 h])]
      simp only [h1, h2, decide_false]
      generalize (decide ((⟨k, hk⟩ : Fin 16) < e)) = z
      revert z
      decide

/-- The count at an index is the expert's rank. -/
theorem counts_apply (l : FVec Ideal S192x16 .f32) (t : Fin 192) (e : Fin 16) :
    counts (F := Ideal) l (ix2 t e) = BitVec.ofNat 32 (Ranking.rank (row l t) e) := by
  classical
  have hr : Ranking.rank (row l t) e = ∑ a : Fin 16, (if Ranking.Ahead (row l t) a e then 1 else 0) := by
    unfold Ranking.rank
    rw [Finset.card_filter]
  rw [hr]
  have hz : (0#32 : BitVec 32) = BitVec.ofNat 32 0 := rfl
  pointwise [counts]
  simp (disch := decide) only [beats_apply, IntOp.addi]
  simp only [Fin.sum_univ_succ, Fin.sum_univ_zero]
  rw [hz]
  simp only [← BitVec.ofNat_add]
  congr 1
  simp only [zero_add, add_zero, add_assoc]
  rfl

/-- The shares at an index. -/
theorem shares_apply (l : FVec Ideal S192x16 .f32) (t : Fin 192) (e : Fin 16) :
    shares (F := Ideal) l (ix2 t e) = Ranking.share (row l t) e := by
  pointwise [shares]
  have hle : Ranking.rank (row l t) e ≤ 16 := by
    classical
    unfold Ranking.rank
    exact (Finset.card_le_univ _).trans (by simp)
  have hc : ∀ n : Fin 17, IntOp.cmpi CmpIPredicate.slt (BitVec.ofNat 32 n.val) 8#32 = BitVec.ofBool (decide (n.val < 8)) := by decide
  have hm : Finset.fold max (Ideal.ofBits FTy.f32 4286578688#32) (fun x => l (ix2 t x)) Finset.univ = Ranking.top (row l t) := by
    have hb : Ideal.ofBits FTy.f32 4286578688#32 = ⊥ := by simp [Ideal.ofBits, Ideal.ieee]
    rw [hb]
    rfl
  rw [counts_apply, hc ⟨Ranking.rank (row l t) e, by omega⟩, select_ofBool, hm]
  rfl

/-- The routing weights at an index. -/
theorem routing_apply (l : FVec Ideal S192x16 .f32) (t : Fin 192) (e : Fin 16) :
    routing (F := Ideal) l (ix2 t e) = Ranking.weight (row l t) e := by
  pointwise [routing]
  simp only [shares_apply]
  rfl

/-- One expert's stored tile at an index. -/
theorem combTile_apply (p : FVec Ideal S192x16 .f32) (k : Nat) (hk : k < 16) (h : S192x16.Slices ![0, k] S192x1) (t : Fin 192) (n : Fin 128) :
    combTile (F := Ideal) p k h (ix3 0 t n) = p (ix2 t ⟨k, hk⟩) := by
  pointwise [combTile]

/-- One expert's stored tile holds the expert's routing weights where it stands. -/
theorem combTile_at (p : FVec Ideal S192x16 .f32) (k : Nat) (hk : k < 16) (h : S192x16.Slices ![0, k] S192x1) (e : Fin 16) (t : Fin 192) (n : Fin 128) :
    View.TileAt (Val := Elt Ideal) (S := S16x192x128) (e := .f32) (ix3 e t n) ![k, 0, 0] ![1, 192, 128] (combTile (F := Ideal) p k h) (p (ix2 t e)) := by
  intro y hy
  have h0 : e.val = k + (y 0).val := hy 0
  have h1 : t.val = 0 + (y 1).val := hy 1
  have h2 : n.val = 0 + (y 2).val := hy 2
  obtain ⟨z, t', n', rfl⟩ : ∃ (z : Fin 1) (t' : Fin 192) (n' : Fin 128), y = ix3 z t' n' := ⟨y 0, y 1, y 2, eq_ix3 y⟩
  have hz : z = 0 := Fin.ext (by omega)
  subst hz
  have ht : t = t' := Fin.ext (by simpa using h1)
  subst ht
  rw [combTile_apply p k hk h]
  have he : e.val = k := h0
  exact congrArg (fun a => p (ix2 t a)) (Fin.ext he.symm)

/-- The table of routing weights at an index. -/
theorem combTable_apply (x0 : Vec Ideal S192x4096 .bf16) (x1 : Vec Ideal S4096x16 .f32) (e : Fin 16) (t : Fin 192) (n : Fin 128) :
    combTable (F := Ideal) x0 x1 (ix3 e t n) = Ranking.weight (fun a => ∑ d : Fin 4096, x0 (ix2 t d) * x1 (ix2 d a)) e := by
  have hl : (fun a => ∑ d : Fin 4096, x0 (ix2 t d) * x1 (ix2 d a)) = row (logits (F := Ideal) x0 x1) t :=
    funext fun a => (logits_apply x0 x1 t a).symm
  rw [hl, ← routing_apply]
  unfold combTable combPieces
  refine View.canon_eq_of_allAt _ _ _ (View.cover_of_tiled_head _ _ _ (by rfl) _) ?_
  refine View.allAt_cons_unit _ _ _ _ _ (combTile_at _ 15 (by decide) _ e t n) ?_
  refine View.allAt_cons_unit _ _ _ _ _ (combTile_at _ 14 (by decide) _ e t n) ?_
  refine View.allAt_cons_unit _ _ _ _ _ (combTile_at _ 13 (by decide) _ e t n) ?_
  refine View.allAt_cons_unit _ _ _ _ _ (combTile_at _ 12 (by decide) _ e t n) ?_
  refine View.allAt_cons_unit _ _ _ _ _ (combTile_at _ 11 (by decide) _ e t n) ?_
  refine View.allAt_cons_unit _ _ _ _ _ (combTile_at _ 10 (by decide) _ e t n) ?_
  refine View.allAt_cons_unit _ _ _ _ _ (combTile_at _ 9 (by decide) _ e t n) ?_
  refine View.allAt_cons_unit _ _ _ _ _ (combTile_at _ 8 (by decide) _ e t n) ?_
  refine View.allAt_cons_unit _ _ _ _ _ (combTile_at _ 7 (by decide) _ e t n) ?_
  refine View.allAt_cons_unit _ _ _ _ _ (combTile_at _ 6 (by decide) _ e t n) ?_
  refine View.allAt_cons_unit _ _ _ _ _ (combTile_at _ 5 (by decide) _ e t n) ?_
  refine View.allAt_cons_unit _ _ _ _ _ (combTile_at _ 4 (by decide) _ e t n) ?_
  refine View.allAt_cons_unit _ _ _ _ _ (combTile_at _ 3 (by decide) _ e t n) ?_
  refine View.allAt_cons_unit _ _ _ _ _ (combTile_at _ 2 (by decide) _ e t n) ?_
  refine View.allAt_cons_unit _ _ _ _ _ (combTile_at _ 1 (by decide) _ e t n) ?_
  refine View.allAt_cons_unit _ _ _ _ _ (combTile_at _ 0 (by decide) _ e t n) ?_
  exact View.allAt_nil _ _

end Cert.KernelIdeal.Gen

end
-- ==== Proof.Fold.lean ====
/- The kernel's run over the sixteen experts, as one sum. -/
module

public import proofs.«01_k».proof.Proof.CombIndex
public import proofs.«01_k».proof.Proof.Gen.KernelIdeal.Value

@[expose] public section

set_option maxRecDepth 16384

noncomputable section

namespace Cert.KernelIdeal.Value

open Idealize.ShloMosaic Idealize.ShloMosaic.TcCoe Idealize.SL Idealize.SL.Sem
open Cert.KernelIdeal.Gen

variable (m : (ℓ : Loc nD τ sig) → Buf (Elt Ideal) ℓ) (c : Dev nD)

/-- What a grid point leaves: the result block, the table of routing weights, the accumulator. -/
abbrev Left : Type := Vec Ideal S192x4096 .bf16 × Vec Ideal S16x192x128 .f32 × Vec Ideal S192x4096 .f32

/-- The first point leaves the table of routing weights. -/
theorem comb_first (t : Fin cfg0.N) (h : t.val = 0) (acc : Left) :
    (stAt0 m c t.val t.isLt acc).2.1 = combTable (iblk m c 0 t) (iblk m c 1 t) := by
  rw [stAt0_A m c t acc (by omega) (by omega)]
  dsimp only
  exact soutComb_A (F := Ideal) _ _ _ _ _ _ _ _ _ _ _ _ _ _ _ _ _ _ _ _ _ _ _ _ _ _ _ _ _ _

/-- The first point leaves the first expert's share of the sum. -/
theorem acc_first (t : Fin cfg0.N) (h : t.val = 0) (acc : Left) :
    (stAt0 m c t.val t.isLt acc).2.2
      = accNext (grid0.coords t) (combTable (iblk m c 0 t) (iblk m c 1 t)) (k0_pay30 (F := Ideal)) (iblk m c 0 t) (iblk m c 2 t) (iblk m c 3 t) (iblk m c 4 t) (iblk m c 5 t) := by
  rw [stAt0_A m c t acc (by omega) (by omega)]
  dsimp only
  exact sout_A (F := Ideal) _ _ _ _ _ _ _ _ _ _ _ _ _ _ _ _ _ _ _ _ _ _ _ _ _ _ _ _ _ _

/-- A later point leaves the table of routing weights as it was. -/
theorem comb_later (t : Fin cfg0.N) (h : t.val ≠ 0) (acc : Left) : (stAt0 m c t.val t.isLt acc).2.1 = acc.2.1 := by
  have hN : t.val < 16 := lt_of_lt_of_eq t.isLt N_0
  by_cases h1 : t.val = 15
  · rw [stAt0_C m c t acc (by omega) (by omega)]
    rfl
  · rw [stAt0_B m c t acc (by omega) (by omega)]
    rfl

/-- A later point adds its expert's share to the accumulator. -/
theorem acc_later (t : Fin cfg0.N) (h : t.val ≠ 0) (acc : Left) :
    (stAt0 m c t.val t.isLt acc).2.2
      = accNext (grid0.coords t) acc.2.1 acc.2.2 (iblk m c 0 t) (iblk m c 2 t) (iblk m c 3 t) (iblk m c 4 t) (iblk m c 5 t) := by
  have hN : t.val < 16 := lt_of_lt_of_eq t.isLt N_0
  by_cases h1 : t.val = 15
  · rw [stAt0_C m c t acc (by omega) (by omega)]
    dsimp only
    exact sout_C (F := Ideal) _ _ _ _ _ _ _ _ _ _ _ _ _ _ _ _ _ _ _ _ _ _ _ _ _ _ _ _ _ _ _ _
  · rw [stAt0_B m c t acc (by omega) (by omega)]
    dsimp only
    exact sout_B (F := Ideal) _ _ _ _ _ _ _ _ _ _ _ _ _ _ _ _ _ _ _ _ _ _ _ _ _ _ _ _ _ _ _ _

/-- The last point's result block is the accumulator it leaves, rounded. -/
theorem out_last (t : Fin cfg0.N) (h : t.val = 15) (acc : Left) :
    (stAt0 m c t.val t.isLt acc).1 = k0_pay2 (F := Ideal) (stAt0 m c t.val t.isLt acc).2.2 := by
  rw [acc_later m c t (by omega) acc, stAt0_C m c t acc (by omega) (by omega)]
  dsimp only
  exact out_C (F := Ideal) _ _ _ _ _ _ _ _ _ _ _ _ _ _ _ _ _ _ _ _ _ _ _ _ _ _ _ _ _ _ _ _

/-! ## The blocks the points read, at an index of the arguments -/

/-- The tokens, as the run finds them. -/
abbrev xA : Vec Ideal S192x1x4096 .bf16 := m ((c : Thread nD τ).loc main_arg0)
/-- The router's weights. -/
abbrev rA : Vec Ideal S4096x16 .f32 := m ((c : Thread nD τ).loc main_arg1)
/-- The packed gate and up weights. -/
abbrev gA : Vec Ideal S16x2048x3072 .i8 := m ((c : Thread nD τ).loc main_arg2)
/-- Their scales. -/
abbrev gsA : Vec Ideal S16x32x3072 .f32 := m ((c : Thread nD τ).loc main_arg3)
/-- The packed down weights. -/
abbrev dA : Vec Ideal S16x768x4096 .i8 := m ((c : Thread nD τ).loc main_arg4)
/-- Their scales. -/
abbrev dsA : Vec Ideal S16x12x4096 .f32 := m ((c : Thread nD τ).loc main_arg5)

/-- The expert a grid point handles. -/
abbrev ex (t : Fin cfg0.N) : Fin 16 := ⟨t.val, lt_of_lt_of_eq t.isLt N_0⟩

/-- The block index of window 2 is the expert. -/
theorem index_2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Window 2's block at an index. -/
theorem iblk_2 (t : Fin cfg0.N) (a : Fin 2048) (b : Fin 3072) :
    (iblk m c 2 t : Vec Ideal S1x2048x3072 _) (ix3 0 a b) = gA m c (ix3 (ex t) a b) := by
  obtain ⟨e0, e1, e2⟩ := index_2 t
  unfold iblk
  rw [View.read_apply]
  show V m c main_arg2 _ = _
  rw [V_main_arg2]
  show m (c.tc.loc main_arg2) _ = m (c.tc.loc main_arg2) _
  congr 1
  funext k
  apply Fin.ext
  match k with
  | ⟨0, _⟩ => show win0_2.index t (0 : Fin 3) * 1 + 1 * 0 = t.val; rw [e0]; omega
  | ⟨1, _⟩ => show win0_2.index t (1 : Fin 3) * 2048 + 1 * a.val = a.val; rw [e1]; omega
  | ⟨2, _⟩ => show win0_2.index t (2 : Fin 3) * 3072 + 1 * b.val = b.val; rw [e2]; omega

/-- The block index of window 3 is the expert. -/
theorem index_3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Window 3's block at an index. -/
theorem iblk_3 (t : Fin cfg0.N) (a : Fin 32) (b : Fin 3072) :
    (iblk m c 3 t : Vec Ideal S1x32x3072 _) (ix3 0 a b) = gsA m c (ix3 (ex t) a b) := by
  obtain ⟨e0, e1, e2⟩ := index_3 t
  unfold iblk
  rw [View.read_apply]
  show V m c main_arg3 _ = _
  rw [V_main_arg3]
  show m (c.tc.loc main_arg3) _ = m (c.tc.loc main_arg3) _
  congr 1
  funext k
  apply Fin.ext
  match k with
  | ⟨0, _⟩ => show win0_3.index t (0 : Fin 3) * 1 + 1 * 0 = t.val; rw [e0]; omega
  | ⟨1, _⟩ => show win0_3.index t (1 : Fin 3) * 32 + 1 * a.val = a.val; rw [e1]; omega
  | ⟨2, _⟩ => show win0_3.index t (2 : Fin 3) * 3072 + 1 * b.val = b.val; rw [e2]; omega

/-- The block index of window 4 is the expert. -/
theorem index_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Window 4's block at an index. -/
theorem iblk_4 (t : Fin cfg0.N) (a : Fin 768) (b : Fin 4096) :
    (iblk m c 4 t : Vec Ideal S1x768x4096 _) (ix3 0 a b) = dA m c (ix3 (ex t) a b) := by
  obtain ⟨e0, e1, e2⟩ := index_4 t
  unfold iblk
  rw [View.read_apply]
  show V m c main_arg4 _ = _
  rw [V_main_arg4]
  show m (c.tc.loc main_arg4) _ = m (c.tc.loc main_arg4) _
  congr 1
  funext k
  apply Fin.ext
  match k with
  | ⟨0, _⟩ => show win0_4.index t (0 : Fin 3) * 1 + 1 * 0 = t.val; rw [e0]; omega
  | ⟨1, _⟩ => show win0_4.index t (1 : Fin 3) * 768 + 1 * a.val = a.val; rw [e1]; omega
  | ⟨2, _⟩ => show win0_4.index t (2 : Fin 3) * 4096 + 1 * b.val = b.val; rw [e2]; omega

/-- The block index of window 5 is the expert. -/
theorem index_5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Window 5's block at an index. -/
theorem iblk_5 (t : Fin cfg0.N) (a : Fin 12) (b : Fin 4096) :
    (iblk m c 5 t : Vec Ideal S1x12x4096 _) (ix3 0 a b) = dsA m c (ix3 (ex t) a b) := by
  obtain ⟨e0, e1, e2⟩ := index_5 t
  unfold iblk
  rw [View.read_apply]
  show V m c main_arg5 _ = _
  rw [V_main_arg5]
  show m (c.tc.loc main_arg5) _ = m (c.tc.loc main_arg5) _
  congr 1
  funext k
  apply Fin.ext
  match k with
  | ⟨0, _⟩ => show win0_5.index t (0 : Fin 3) * 1 + 1 * 0 = t.val; rw [e0]; omega
  | ⟨1, _⟩ => show win0_5.index t (1 : Fin 3) * 12 + 1 * a.val = a.val; rw [e1]; omega
  | ⟨2, _⟩ => show win0_5.index t (2 : Fin 3) * 4096 + 1 * b.val = b.val; rw [e2]; omega

/-- The block index of the router's window never moves. -/
theorem index_1 : ∀ t : Fin cfg0.N, win0_1.index t (0 : Fin 2) = 0 ∧ win0_1.index t (1 : Fin 2) = 0 :=
  (by decide +kernel : ∀ t : Fin grid0.N, _)

/-- The router's block is its whole array. -/
theorem iblk_1 (t : Fin cfg0.N) (a : Fin 4096) (b : Fin 16) : (iblk m c 1 t : Vec Ideal S4096x16 .f32) (ix2 a b) = rA m c (ix2 a b) := by
  obtain ⟨e0, e1⟩ := index_1 t
  unfold iblk
  rw [View.read_apply]
  show V m c main_arg1 _ = _
  rw [V_main_arg1]
  show m (c.tc.loc main_arg1) _ = m (c.tc.loc main_arg1) _
  congr 1
  funext k
  apply Fin.ext
  match k with
  | ⟨0, _⟩ => show win0_1.index t (0 : Fin 2) * 4096 + 1 * a.val = a.val; rw [e0]; omega
  | ⟨1, _⟩ => show win0_1.index t (1 : Fin 2) * 16 + 1 * b.val = b.val; rw [e1]; omega

/-- The block index of the tokens' window never moves. -/
theorem index_0 : ∀ t : Fin cfg0.N, win0_0.index t (0 : Fin 2) = 0 ∧ win0_0.index t (1 : Fin 2) = 0 :=
  (by decide +kernel : ∀ t : Fin grid0.N, _)

/-- The tokens' array as the region finds it, the reshaped argument. -/
theorem V_v0 : V m c main_v0 = shapeCast S192x4096 (xA m c) shapeCasts_S192x1x4096_S192x4096 := by
  unfold V
  simp only [StableHlo.after_cons, StableHlo.after_nil]
  rfl

/-- The reshape at an index. -/
theorem reshape_x (x : Vec Ideal S192x1x4096 .bf16) (a : Fin 192) (b : Fin 4096) :
    shapeCast S192x4096 x shapeCasts_S192x1x4096_S192x4096 (ix2 a b) = x (ix3 a 0 b) := by
  pointwise []

/-- The tokens' block is the whole reshaped argument. -/
theorem iblk_0 (t : Fin cfg0.N) (a : Fin 192) (b : Fin 4096) : (iblk m c 0 t : Vec Ideal S192x4096 .bf16) (ix2 a b) = xA m c (ix3 a 0 b) := by
  obtain ⟨e0, e1⟩ := index_0 t
  rw [← reshape_x (xA m c), ← V_v0]
  unfold iblk
  rw [View.read_apply]
  show V m c main_v0 _ = V m c main_v0 _
  congr 1
  funext k
  apply Fin.ext
  match k with
  | ⟨0, _⟩ => show win0_0.index t (0 : Fin 2) * 192 + 1 * a.val = a.val; rw [e0]; omega
  | ⟨1, _⟩ => show win0_0.index t (1 : Fin 2) * 4096 + 1 * b.val = b.val; rw [e1]; omega

end Cert.KernelIdeal.Value

end
-- ==== Proof.KernelValue.lean ====
/- The kernel's result at an index: the sum over the experts of the routed outputs. -/
module

public import proofs.«01_k».proof.Proof.Fold

@[expose] public section

set_option maxRecDepth 16384

noncomputable section

namespace Cert.KernelIdeal.Value

open Idealize.ShloMosaic Idealize.ShloMosaic.TcCoe Idealize.SL Idealize.SL.Sem
open Cert.KernelIdeal.Gen

variable (m : (ℓ : Loc nD τ sig) → Buf (Elt Ideal) ℓ) (c : Dev nD)

/-- One token's row of inputs. -/
abbrev xRow (t : Fin 192) : Fin 4096 → EReal := fun d => xA m c (ix3 t 0 d)

/-- One token's router scores. -/
abbrev score (t : Fin 192) : Fin 16 → EReal := fun e => ∑ d : Fin 4096, xRow m c t d * rA m c (ix2 d e)

/-- One expert's gate and up matrix. -/
abbrev guE (e : Fin 16) : Fin 4096 → Fin 3072 → EReal :=
  Spec.matrix (fun r f => gA m c (ix3 e r f)) (fun r f => gsA m c (ix3 e r f)) (r := 4096) rfl rfl

/-- One expert's down matrix. -/
abbrev dnE (e : Fin 16) : Fin 1536 → Fin 4096 → EReal :=
  Spec.matrix (fun r f => dA m c (ix3 e r f)) (fun r f => dsA m c (ix3 e r f)) (r := 1536) rfl rfl

/-- What an expert adds to one token's output. -/
abbrev addend (e : Fin 16) (t : Fin 192) (k : Fin 4096) : EReal :=
  if 0 < Ranking.weight (score m c t) e then Spec.ffn (xRow m c t) (guE m c e) (dnE m c e) k * Ranking.weight (score m c t) e else 0

/-- One step of the accumulator at an index, once the table of routing weights is in place. -/
theorem step_apply (p : Fin cfg0.N) (comb : Vec Ideal S16x192x128 .f32) (hcomb : ∀ e t n, comb (ix3 e t n) = Ranking.weight (score m c t) e)
    (a : Vec Ideal S192x4096 .f32) (t : Fin 192) (k : Fin 4096) :
    accNext (F := Ideal) (grid0.coords p) comb a (iblk m c 0 p) (iblk m c 2 p) (iblk m c 3 p) (iblk m c 4 p) (iblk m c 5 p) (ix2 t k)
      = a (ix2 t k) + addend m c (ex p) t k := by
  rw [accNext_apply, hcomb]
  have hx : (fun d => (iblk m c 0 p : Vec Ideal S192x4096 .bf16) (ix2 t d)) = xRow m c t := funext fun d => iblk_0 m c p t d
  have hg : guOf (iblk m c 2 p) (iblk m c 3 p) = guE m c (ex p) := by
    unfold guOf guE
    congr 1
    · funext r f; exact iblk_2 m c p r f
    · funext r f; exact iblk_3 m c p r f
  have hd : dnOf (iblk m c 4 p) (iblk m c 5 p) = dnE m c (ex p) := by
    unfold dnOf dnE
    congr 1
    · funext r f; exact iblk_4 m c p r f
    · funext r f; exact iblk_5 m c p r f
  have he : (⟨(grid0.coords p 0).val, (grid0.coords p 0).isLt⟩ : Fin 16) = ex p :=
    (by decide +kernel : ∀ p : Fin grid0.N, (⟨(grid0.coords p 0).val, (grid0.coords p 0).isLt⟩ : Fin 16) = ex p) p
  rw [hx, hg, hd, he]

/-- The table of routing weights at an index of the arguments. -/
theorem comb_apply (p : Fin cfg0.N) (e : Fin 16) (t : Fin 192) (n : Fin 128) :
    combTable (F := Ideal) (iblk m c 0 p) (iblk m c 1 p) (ix3 e t n) = Ranking.weight (score m c t) e := by
  rw [combTable_apply]
  congr 1
  funext a
  exact Finset.sum_congr rfl fun d _ => by rw [iblk_0, iblk_1]

/-- The zero fill at an index. -/
theorem zero_fill (t : Fin 192) (k : Fin 4096) : k0_pay30 (F := Ideal) (ix2 t k) = 0 := by
  pointwise [k0_pay30]

/-- The final rounding at an index keeps the value. -/
theorem final_round (a : Vec Ideal S192x4096 .f32) (t : Fin 192) (k : Fin 4096) : k0_pay2 (F := Ideal) a (ix2 t k) = a (ix2 t k) := by
  pointwise [k0_pay2]

/-- After `n + 1` points the table is in place and the accumulator holds the first `n + 1` experts' shares. -/
theorem fold_apply (n : ℕ) (h : 0 + n < cfg0.N) :
    (∀ e t q, (Pipeline.accAt (fun n h => stAt0 m c n h junk0) (stAt0 m c) 0 n h).2.1 (ix3 e t q) = Ranking.weight (score m c t) e)
    ∧ ∀ t k, (Pipeline.accAt (fun n h => stAt0 m c n h junk0) (stAt0 m c) 0 n h).2.2 (ix2 t k)
        = ∑ e : Fin 16, if e.val ≤ n then addend m c e t k else 0 := by
  have hN : n < 16 := by have := lt_of_lt_of_eq h N_0; omega
  induction n with
  | zero =>
    rw [Pipeline.accAt_zero]
    refine ⟨fun e t q => ?_, fun t k => ?_⟩
    · rw [comb_first m c ⟨0, h⟩ rfl]
      exact comb_apply m c _ e t q
    · rw [acc_first m c ⟨0, h⟩ rfl, step_apply m c _ _ (comb_apply m c _), zero_fill, zero_add]
      rw [Finset.sum_eq_single (ex ⟨0, h⟩)]
      · rw [if_pos (le_refl _)]
      · intro b _ hb
        rw [if_neg]
        intro hb0
        exact hb (Fin.ext (Nat.le_zero.mp hb0))
      · intro hh
        exact absurd (Finset.mem_univ _) hh
  | succ n ih =>
    obtain ⟨i1, i2⟩ := ih (by omega) (by omega)
    rw [Pipeline.accAt_succ]
    generalize Pipeline.accAt (fun n h => stAt0 m c n h junk0) (stAt0 m c) 0 n _ = s at i1 i2
    have hp : 0 + (n + 1) < cfg0.N := h
    refine ⟨fun e t q => ?_, fun t k => ?_⟩
    · rw [comb_later m c ⟨0 + (n + 1), hp⟩ (by show 0 + (n + 1) ≠ 0; omega)]
      exact i1 e t q
    · rw [acc_later m c ⟨0 + (n + 1), hp⟩ (by show 0 + (n + 1) ≠ 0; omega), step_apply m c _ _ i1, i2]
      have hs : ∀ e : Fin 16, (if e.val ≤ n + 1 then addend m c e t k else 0)
          = (if e.val ≤ n then addend m c e t k else 0) + (if e = ex ⟨0 + (n + 1), hp⟩ then addend m c e t k else 0) := by
        intro e
        by_cases h1 : e.val ≤ n
        · rw [if_pos (by omega), if_pos h1, if_neg (fun he => by rw [he] at h1; simp only at h1; omega), add_zero]
        · by_cases h2 : e = ex ⟨0 + (n + 1), hp⟩
          · rw [if_neg h1, if_pos h2, if_pos (by rw [h2]; simp only; omega), zero_add]
          · rw [if_neg h1, if_neg h2, if_neg (fun h3 => h2 (Fin.ext (by simp only; omega))), zero_add]
      simp only [hs]
      rw [Finset.sum_add_distrib, Finset.sum_ite_eq' Finset.univ (ex ⟨0 + (n + 1), hp⟩), if_pos (Finset.mem_univ _)]

/-- The last point's result block is the accumulator, rounded. -/
theorem fold_last (n : ℕ) (hn : n = 15) (h : 0 + n < cfg0.N) :
    (Pipeline.accAt (fun n h => stAt0 m c n h junk0) (stAt0 m c) 0 n h).1
      = k0_pay2 (F := Ideal) (Pipeline.accAt (fun n h => stAt0 m c n h junk0) (stAt0 m c) 0 n h).2.2 := by
  cases n with
  | zero => omega
  | succ n =>
    rw [Pipeline.accAt_succ]
    exact out_last m c ⟨0 + (n + 1), h⟩ (by show 0 + (n + 1) = 15; omega) _

/-- The last point's result block at an index. -/
theorem fold_out (n : ℕ) (hn : n = 15) (h : 0 + n < cfg0.N) (t : Fin 192) (k : Fin 4096) :
    (Pipeline.accAt (fun n h => stAt0 m c n h junk0) (stAt0 m c) 0 n h).1 (ix2 t k) = ∑ e : Fin 16, addend m c e t k := by
  rw [fold_last m c n hn, final_round, (fold_apply m c n _).2]
  exact Finset.sum_congr rfl fun e _ => if_pos (by have := e.isLt; omega)

/-- The kernel's result at an index: the sum of the routed experts' shares. -/
theorem G6_apply (t : Fin 192) (k : Fin 4096) : G6 m c (ix2 t k) = ∑ e : Fin 16, addend m c e t k := by
  rw [G6_last]
  exact fold_out m c 15 rfl _ t k

end Cert.KernelIdeal.Value

end
-- ==== Proof.Equal.lean ====
/- The two results are equal: the kernel's sum over the sixteen experts is the reference's over the eight slots. -/
module

public import proofs.«01_k».proof.Proof.KernelValue
public import proofs.«01_k».proof.Proof.RefValue
public import proofs.«01_k».proof.Proof.Gen.ReferenceIdeal.Run

@[expose] public section

set_option maxRecDepth 16384

noncomputable section

namespace Cert.Proof

open Idealize.ShloMosaic Idealize.ShloMosaic.TcCoe Idealize.SL Idealize.SL.Sem
open Cert.KernelIdeal.Value

/-- With real scores, the kernel's result is the reference's pure value at the same arguments. -/
theorem result_eq (m : (ℓ : Loc Cert.KernelIdeal.nD Cert.KernelIdeal.τ Cert.KernelIdeal.sig) → Buf (Elt Ideal) ℓ) (c : Dev Cert.KernelIdeal.nD)
    (hs : ∀ t e, ∃ r : ℝ, score m c t e = r) :
    Cert.ReferenceIdeal.Read.val_main_v91 (F := Ideal) (xA m c) (rA m c) (gA m c) (gsA m c) (dA m c) (dsA m c) = G6 m c := by
  funext i
  obtain ⟨t, k, rfl⟩ : ∃ (t : Fin 192) (k : Fin 4096), i = ix2 t k := ⟨i 0, i 1, eq_ix2 i⟩
  rw [G6_apply, Cert.ReferenceIdeal.Value.result_apply]
  have hsc : (fun e => Cert.ReferenceIdeal.Read.val_main_v2 (F := Ideal) (xA m c) (rA m c) (ix2 t e)) = score m c t :=
    funext fun e => Cert.ReferenceIdeal.Value.score_apply (xA m c) (rA m c) t e
  unfold Cert.ReferenceIdeal.Value.slot
  rw [hsc]
  exact (Ranking.sum_weighted (hs t) (fun e => Spec.ffn (xRow m c t) (guE m c e) (dnE m c e) k)).symm

end Cert.Proof

end
-- ==== Proof.Pre.lean ====
/- What the precondition says: every input of the router is a real number, so every score is. -/
module

public import proofs.«01_k».proof.Proof.Gen.Pre_router_finite
public import Idealize.ShloMosaic.Lib.Pointwise
public import Idealize.ShloMosaic.Lib.ReduceAll
public import Idealize.ShloMosaic.Lib.Affine

@[expose] public section

set_option maxRecDepth 16384

noncomputable section

namespace Cert.RouterFinite

open Idealize.ShloMosaic Cert.Pre_router_finite Cert.Pre_router_finite.Gen

/-- A value whose magnitude is below infinity is a real number. -/
theorem real_of_lt (a : EReal) (h : BitVec.ofBool (decide (max a (-a) < ⊤)) = 1#1) : ∃ r : ℝ, a = r := by
  induction a using EReal.rec with
  | bot => simp at h
  | top => simp at h
  | coe r => exact ⟨r, rfl⟩

/-- A finite sum of products of real numbers is a real number. -/
theorem real_sum {n : ℕ} (x y : Fin n → EReal) (hx : ∀ d, ∃ r : ℝ, x d = r) (hy : ∀ d, ∃ r : ℝ, y d = r) :
    ∃ r : ℝ, ∑ d : Fin n, x d * y d = r := by
  refine Finset.sum_induction (fun d => x d * y d) (fun z : EReal => ∃ r : ℝ, z = r) ?_ ⟨0, rfl⟩ fun d _ => ?_
  · rintro _ _ ⟨a, rfl⟩ ⟨b, rfl⟩
    exact ⟨a + b, rfl⟩
  · obtain ⟨a, ha⟩ := hx d
    obtain ⟨b, hb⟩ := hy d
    exact ⟨a * b, by simp only [ha, hb]; rfl⟩

/-- The wide format's word of infinity. -/
theorem inf_f32 : Ideal.ofBits FTy.f32 0x7F800000#32 = ⊤ := by simp [Ideal.ofBits, Ideal.ieee]

/-- The narrow format's word of infinity. -/
theorem inf_bf16 : Ideal.ofBits FTy.bf16 0x7F80#16 = ⊤ := by simp [Ideal.ofBits, Ideal.ieee]

variable (x0 : FVec Ideal S192x1x4096 .bf16) (x1 : FVec Ideal S4096x16 .f32) (x2 : IVec S16x2048x3072 8) (x3 : FVec Ideal S16x32x3072 .f32)
  (x4 : IVec S16x768x4096 8) (x5 : FVec Ideal S16x12x4096 .f32)

/-- Under the precondition the hidden states and the router's matrix are real. -/
theorem reals (h : Cert.Pre_router_finite.fn (F := Ideal) x0 x1 x2 x3 x4 x5 = fun _ => 1#1) :
    (∀ t d, ∃ r : ℝ, x0 (ix3 t 0 d) = r) ∧ ∀ d e, ∃ r : ℝ, x1 (ix2 d e) = r := by
  haveI : Subsingleton S_.Idx := ⟨fun a b => funext fun i => i.elim0⟩
  have h0 := congrFun h (fun i => i.elim0)
  unfold Cert.Pre_router_finite.fn at h0
  obtain ⟨ha, hb⟩ := IntOp.andi_eq_one.mp h0
  refine ⟨fun t d => real_of_lt _ ?_, fun d e => real_of_lt _ ?_⟩
  · rw [← inf_bf16]
    exact Host.reduce_andi_all _ _ _ _ _ ha (ix3 t 0 d)
  · rw [← inf_f32]
    exact Host.reduce_andi_all _ _ _ _ _ hb (ix2 d e)

/-- Under the precondition every router score is real. -/
theorem scores (h : Cert.Pre_router_finite.fn (F := Ideal) x0 x1 x2 x3 x4 x5 = fun _ => 1#1) (t : Fin 192) (e : Fin 16) :
    ∃ r : ℝ, ∑ d : Fin 4096, x0 (ix3 t 0 d) * x1 (ix2 d e) = r :=
  real_sum _ _ (fun d => (reals x0 x1 x2 x3 x4 x5 h).1 t d) fun d => (reals x0 x1 x2 x3 x4 x5 h).2 d e

end Cert.RouterFinite

end
-- ==== Proof.lean ====
/- The certificate of the mixture-of-experts kernel: the frames of the three programs, the idealization, and the equality of the
   kernel's and the reference's results over the extended reals.
   The kernel's side is read in Fold and KernelValue (a sum over the sixteen experts, masked by the routing weight), the
   reference's in RefRoute, RefWeights, RefGather and RefValue (a sum over the eight slots of a token); Ranking and Equal join them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_router_finite
public import proofs.«01_k».proof.Proof.Gen.KernelIdeal.Value
public import proofs.«01_k».proof.Proof.Gen.ReferenceIdeal.Run
public import proofs.«01_k».proof.Proof.RefValue
public import proofs.«01_k».proof.Proof.Equal
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference runs, leaves its arguments alone and declares no semaphore. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m g)

/-- The value claim: under the precondition the two programs end with equal results. -/
theorem algebraic : Cert.algebraic_KernelIdeal_ReferenceIdeal_pre_router_finite (hKernelIdeal := Cert.KernelIdeal.Gen.facts)
    (hReferenceIdeal := Cert.ReferenceIdeal.Gen.facts) (hPre_router_finite := Cert.Pre_router_finite.Gen.facts) := by
  intro m g m' g' hpre hag
  refine ⟨fun c => Cert.KernelIdeal.Value.G6 m c, Cert.KernelIdeal.Value.run m g, ?_⟩
  refine (θ_run (Cert.ReferenceIdeal.defs (F := Ideal)) _ _).mono (fun r h c => ⟨(h c).1.trans ?_, (h c).2⟩) (Cert.ReferenceIdeal.Value.run (F := Ideal) m' g')
  obtain ⟨h0, h1, h2, h3, h4, h5⟩ := hag c
  rw [Cert.ReferenceIdeal.Read.val_main_v91_eq, h0, h1, h2, h3, h4, h5]
  exact result_eq m c fun t e => Cert.RouterFinite.scores _ _ _ _ _ _ (hpre c) t e

/-- All the claims. -/
theorem claim : Cert.Claim :=
  ⟨Cert.Kernel.Gen.facts, Cert.KernelIdeal.Gen.facts, Cert.ReferenceIdeal.Gen.facts, Cert.Pre_router_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
